-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S500000x80 : Shape := ⟨2, ![500000, 80]⟩
abbrev S_ : Shape := ⟨0, ![]⟩
abbrev S80x500000 : Shape := ⟨2, ![80, 500000]⟩
abbrev S16 : Shape := ⟨1, ![16]⟩
abbrev S196608 : Shape := ⟨1, ![196608]⟩
abbrev S80x128 : Shape := ⟨2, ![80, 128]⟩
abbrev S128 : Shape := ⟨1, ![128]⟩
abbrev S1x16 : Shape := ⟨2, ![1, 16]⟩
abbrev S1 : Shape := ⟨1, ![1]⟩
abbrev S303392 : Shape := ⟨1, ![303392]⟩
abbrev S80x16384 : Shape := ⟨2, ![80, 16384]⟩
abbrev S16384 : Shape := ⟨1, ![16384]⟩
abbrev S1x16384 : Shape := ⟨2, ![1, 16384]⟩
abbrev S500000 : Shape := ⟨1, ![500000]⟩

abbrev nBuf : Table → Nat
  | .hbm => 8
  | .local .tc .vmem => 4
  | .local .tc .smem => 1
  | .local .scVector .vmem => 5
  | _ => 0

abbrev bufTy : (tb : Table) → Fin (nBuf tb) → BufTy
  | .hbm, ⟨0, _⟩ => ⟨S500000x80, .f32⟩
  | .hbm, ⟨1, _⟩ => ⟨S_, .f32⟩
  | .hbm, ⟨2, _⟩ => ⟨S80x500000, .f32⟩
  | .hbm, ⟨3, _⟩ => ⟨S16, .f32⟩
  | .hbm, ⟨4, _⟩ => ⟨S196608, .i32⟩
  | .hbm, ⟨5, _⟩ => ⟨S1, .f32⟩
  | .hbm, ⟨6, _⟩ => ⟨S303392, .i32⟩
  | .hbm, ⟨7, _⟩ => ⟨S500000, .i32⟩
  | .local .tc .vmem, ⟨0, _⟩ => ⟨S80x16384, .f32⟩
  | .local .tc .vmem, ⟨1, _⟩ => ⟨S80x16384, .f32⟩
  | .local .tc .vmem, ⟨2, _⟩ => ⟨S16384, .i32⟩
  | .local .tc .vmem, ⟨3, _⟩ => ⟨S16384, .i32⟩
  | .local .tc .smem, ⟨0, _⟩ => ⟨S1, .f32⟩
  | .local .scVector .vmem, ⟨0, _⟩ => ⟨S80x128, .f32⟩
  | .local .scVector .vmem, ⟨1, _⟩ => ⟨S80x128, .f32⟩
  | .local .scVector .vmem, ⟨2, _⟩ => ⟨S128, .i32⟩
  | .local .scVector .vmem, ⟨3, _⟩ => ⟨S128, .i32⟩
  | .local .scVector .vmem, ⟨4, _⟩ => ⟨S16, .f32⟩
  | _, _ => ⟨S500000x80, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc1_stg1_0 : Ref sig .tc := ⟨.vmem, 0, rfl⟩
abbrev cc1_stg1_1 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg0_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6 : BitVec 32 := 0#32
  let v23 : BitVec 32 := Scalar.addi v1 c0_i32_6
  let c128_i32 : BitVec 32 := 128#32
  let v24 : BitVec 32 := Scalar.muli v23 c128_i32
  ![0, v24.toNat]
@[reducible] def k0_t1_loop (i : grid0.Coords) : Scf.Loop 32 :=
  let c0_i32_23 : BitVec 32 := 0#32
  let c1536_i32 : BitVec 32 := 1536#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.subi c1536_i32 v1
  let c32_i32 : BitVec 32 := 32#32
  let v4 : BitVec 32 := Scalar.addi v3 c32_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c32_i32_0 : BitVec 32 := 32#32
  let c0_i32_2 : BitVec 32 := 0#32
  let v12 : BitVec 1 := Scalar.cmpi .sgt c32_i32_0 c0_i32_2
  let v13 : BitVec 32 := Scalar.extui v12
  let c0_i32_3 : BitVec 32 := 0#32
  let v14 : BitVec 1 := Scalar.cmpi .slt c32_i32_0 c0_i32_3
  let v15 : BitVec 32 := Scalar.extui v14
  let v16 : BitVec 32 := Scalar.subi v13 v15
  let v17 : BitVec 1 := Scalar.cmpi .ne v11 v16
  let v18 : BitVec 32 := Scalar.remsi v5 c32_i32_0
  let c0_i32_4 : BitVec 32 := 0#32
  let v19 : BitVec 1 := Scalar.cmpi .ne v18 c0_i32_4
  let v20 : BitVec 1 := Scalar.andi v17 v19
  let v6 : BitVec 32 := Scalar.divsi v5 c32_i32_0
  let c1_i32_5 : BitVec 32 := 1#32
  let v21 : BitVec 32 := Scalar.subi v6 c1_i32_5
  let v22 : BitVec 32 := Scalar.select v20 v21 v6
  let c1_i32_9 : BitVec 32 := 1#32
  let v27 : BitVec 32 := Scalar.addi v22 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32_10 : BitVec 32 := 2#32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v27 c2_i32_10
  let c0_i32_15 : BitVec 32 := 0#32
  let v41 : BitVec 1 := Scalar.cmpi .ne v40 c0_i32_15
  let v42 : BitVec 1 := Scalar.andi v39 v41
  let v28 : BitVec 32 := Scalar.divsi v27 c2_i32_10
  let c1_i32_16 : BitVec 32 := 1#32
  let v43 : BitVec 32 := Scalar.subi v28 c1_i32_16
  let v44 : BitVec 32 := Scalar.select v42 v43 v28
  let c0_i32_17 : BitVec 32 := 0#32
  let v45 : BitVec 32 := Scalar.subi v44 c0_i32_17
  let c1_i32_18 : BitVec 32 := 1#32
  let c1_i32_19 : BitVec 32 := 1#32
  let v46 : BitVec 32 := Scalar.subi c1_i32_18 c1_i32_19
  let v47 : BitVec 32 := Scalar.addi v45 v46
  let c1_i32_20 : BitVec 32 := 1#32
  let v48 : BitVec 32 := Scalar.divsi v47 c1_i32_20
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_25 : BitVec 32 := 1#32
  ⟨c0_i32_23, v53, c1_i32_25⟩
def k0_cond1 (i : grid0.Coords) (k0_t1 : Fin (k0_t1_loop i).trips) : BitVec 1 :=
  let c2_i32_31 : BitVec 32 := 2#32
  let c0_i32_22 : BitVec 32 := 0#32
  let c0_i32_23 : BitVec 32 := 0#32
  let c1_i32_25 : BitVec 32 := 1#32
  let arg14 : BitVec 32 := Scf.iv c0_i32_23 c1_i32_25 k0_t1
  let c1_i32_21 : BitVec 32 := 1#32
  let v58 : BitVec 32 := Scalar.muli arg14 c1_i32_21
  let v59 : BitVec 32 := Scalar.addi c0_i32_22 v58
  let v60 : BitVec 32 := Scalar.muli c2_i32_31 v59
  let c1_i32_32 : BitVec 32 := 1#32
  let v61 : BitVec 32 := Scalar.addi v60 c1_i32_32
  let c1536_i32 : BitVec 32 := 1536#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.subi c1536_i32 v1
  let c32_i32 : BitVec 32 := 32#32
  let v4 : BitVec 32 := Scalar.addi v3 c32_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c32_i32_0 : BitVec 32 := 32#32
  let c0_i32_2 : BitVec 32 := 0#32
  let v12 : BitVec 1 := Scalar.cmpi .sgt c32_i32_0 c0_i32_2
  let v13 : BitVec 32 := Scalar.extui v12
  let c0_i32_3 : BitVec 32 := 0#32
  let v14 : BitVec 1 := Scalar.cmpi .slt c32_i32_0 c0_i32_3
  let v15 : BitVec 32 := Scalar.extui v14
  let v16 : BitVec 32 := Scalar.subi v13 v15
  let v17 : BitVec 1 := Scalar.cmpi .ne v11 v16
  let v18 : BitVec 32 := Scalar.remsi v5 c32_i32_0
  let c0_i32_4 : BitVec 32 := 0#32
  let v19 : BitVec 1 := Scalar.cmpi .ne v18 c0_i32_4
  let v20 : BitVec 1 := Scalar.andi v17 v19
  let v6 : BitVec 32 := Scalar.divsi v5 c32_i32_0
  let c1_i32_5 : BitVec 32 := 1#32
  let v21 : BitVec 32 := Scalar.subi v6 c1_i32_5
  let v22 : BitVec 32 := Scalar.select v20 v21 v6
  let v62 : BitVec 1 := Scalar.cmpi .slt v61 v22
  let v63 : BitVec 32 := Scalar.extui v62
  let c0_i32_33 : BitVec 32 := 0#32
  let v64 : BitVec 1 := Scalar.cmpi .ne v63 c0_i32_33
  v64

def k0_off2 (i : grid0.Coords) (k0_t1 : Fin (k0_t1_loop i).trips) : Fin 2 → Nat :=
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_31 : BitVec 32 := 2#32
  let c0_i32_22 : BitVec 32 := 0#32
  let c0_i32_23 : BitVec 32 := 0#32
  let c1_i32_25 : BitVec 32 := 1#32
  let arg14 : BitVec 32 := Scf.iv c0_i32_23 c1_i32_25 k0_t1
  let c1_i32_21 : BitVec 32 := 1#32
  let v58 : BitVec 32 := Scalar.muli arg14 c1_i32_21
  let v59 : BitVec 32 := Scalar.addi c0_i32_22 v58
  let v60 : BitVec 32 := Scalar.muli c2_i32_31 v59
  let c1_i32_32 : BitVec 32 := 1#32
  let v61 : BitVec 32 := Scalar.addi v60 c1_i32_32
  let c32_i32_46 : BitVec 32 := 32#32
  let v79 : BitVec 32 := Scalar.muli v61 c32_i32_46
  let v80 : BitVec 32 := Scalar.addi v1 v79
  let c128_i32_47 : BitVec 32 := 128#32
  let v81 : BitVec 32 := Scalar.muli v80 c128_i32_47
  ![0, v81.toNat]
@[reducible] def k0_t2_loop : Scf.Loop 32 :=
  let c0_i32_40 : BitVec 32 := 0#32
  let c8_i32 : BitVec 32 := 8#32
  let v70 : BitVec 32 := Scalar.addi c0_i32_40 c8_i32
  let c1_i32_41 : BitVec 32 := 1#32
  ⟨c0_i32_40, v70, c1_i32_41⟩
def k0_off3 (k0_t2 : Fin k0_t2_loop.trips) : Fin 2 → Nat :=
  let c0_i32_48 : BitVec 32 := 0#32
  let v82 : Index := Scalar.indexCast c0_i32_48
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v83 : Index := Scalar.indexCast v81
  ![0, v83.toNat]
def k0_off4 (k0_t2 : Fin k0_t2_loop.trips) : Fin 2 → Nat :=
  let c1_i32_50 : BitVec 32 := 1#32
  let v86 : Index := Scalar.indexCast c1_i32_50
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v87 : Index := Scalar.indexCast v81
  ![1, v87.toNat]
def k0_off5 (k0_t2 : Fin k0_t2_loop.trips) : Fin 2 → Nat :=
  let c2_i32_52 : BitVec 32 := 2#32
  let v90 : Index := Scalar.indexCast c2_i32_52
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v91 : Index := Scalar.indexCast v81
  ![2, v91.toNat]
def k0_off6 (k0_t2 : Fin k0_t2_loop.trips) : Fin 2 → Nat :=
  let c3_i32 : BitVec 32 := 3#32
  let v94 : Index := Scalar.indexCast c3_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v95 : Index := Scalar.indexCast v81
  ![3, v95.toNat]
def k0_off7 (k0_t2 : Fin k0_t2_loop.trips) : Fin 2 → Nat :=
  let c4_i32 : BitVec 32 := 4#32
  let v98 : Index := Scalar.indexCast c4_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v99 : Index := Scalar.indexCast v81
  ![4, v99.toNat]
def k0_off8 (k0_t2 : Fin k0_t2_loop.trips) : Fin 2 → Nat :=
  let c5_i32 : BitVec 32 := 5#32
  let v105 : Index := Scalar.indexCast c5_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v106 : Index := Scalar.indexCast v81
  ![5, v106.toNat]
def k0_off9 (k0_t2 : Fin k0_t2_loop.trips) : Fin 2 → Nat :=
  let c6_i32 : BitVec 32 := 6#32
  let v112 : Index := Scalar.indexCast c6_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v113 : Index := Scalar.indexCast v81
  ![6, v113.toNat]
def k0_off10 (k0_t2 : Fin k0_t2_loop.trips) : Fin 2 → Nat :=
  let c7_i32 : BitVec 32 := 7#32
  let v119 : Index := Scalar.indexCast c7_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v120 : Index := Scalar.indexCast v81
  ![7, v120.toNat]
def k0_off11 (k0_t2 : Fin k0_t2_loop.trips) : Fin 2 → Nat :=
  let c8_i32_59 : BitVec 32 := 8#32
  let v126 : Index := Scalar.indexCast c8_i32_59
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v127 : Index := Scalar.indexCast v81
  ![8, v127.toNat]
def k0_off12 (k0_t2 : Fin k0_t2_loop.trips) : Fin 2 → Nat :=
  let c9_i32 : BitVec 32 := 9#32
  let v133 : Index := Scalar.indexCast c9_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v134 : Index := Scalar.indexCast v81
  ![9, v134.toNat]
def k0_off13 (k0_t2 : Fin k0_t2_loop.trips) : Fin 2 → Nat :=
  let c10_i32 : BitVec 32 := 10#32
  let v140 : Index := Scalar.indexCast c10_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v141 : Index := Scalar.indexCast v81
  ![10, v141.toNat]
def k0_off14 (k0_t2 : Fin k0_t2_loop.trips) : Fin 2 → Nat :=
  let c11_i32 : BitVec 32 := 11#32
  let v147 : Index := Scalar.indexCast c11_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v148 : Index := Scalar.indexCast v81
  ![11, v148.toNat]
def k0_off15 (k0_t2 : Fin k0_t2_loop.trips) : Fin 2 → Nat :=
  let c12_i32 : BitVec 32 := 12#32
  let v154 : Index := Scalar.indexCast c12_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v155 : Index := Scalar.indexCast v81
  ![12, v155.toNat]
def k0_off16 (k0_t2 : Fin k0_t2_loop.trips) : Fin 2 → Nat :=
  let c13_i32 : BitVec 32 := 13#32
  let v161 : Index := Scalar.indexCast c13_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v162 : Index := Scalar.indexCast v81
  ![13, v162.toNat]
def k0_off17 (k0_t2 : Fin k0_t2_loop.trips) : Fin 2 → Nat :=
  let c14_i32 : BitVec 32 := 14#32
  let v168 : Index := Scalar.indexCast c14_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v169 : Index := Scalar.indexCast v81
  ![14, v169.toNat]
def k0_off18 (k0_t2 : Fin k0_t2_loop.trips) : Fin 2 → Nat :=
  let c15_i32 : BitVec 32 := 15#32
  let v175 : Index := Scalar.indexCast c15_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v176 : Index := Scalar.indexCast v81
  ![15, v176.toNat]
def k0_off19 (k0_t2 : Fin k0_t2_loop.trips) : Fin 2 → Nat :=
  let c16_i32_68 : BitVec 32 := 16#32
  let v182 : Index := Scalar.indexCast c16_i32_68
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v183 : Index := Scalar.indexCast v81
  ![16, v183.toNat]
def k0_off20 (k0_t2 : Fin k0_t2_loop.trips) : Fin 2 → Nat :=
  let c17_i32 : BitVec 32 := 17#32
  let v189 : Index := Scalar.indexCast c17_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v190 : Index := Scalar.indexCast v81
  ![17, v190.toNat]
def k0_off21 (k0_t2 : Fin k0_t2_loop.trips) : Fin 2 → Nat :=
  let c18_i32 : BitVec 32 := 18#32
  let v196 : Index := Scalar.indexCast c18_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v197 : Index := Scalar.indexCast v81
  ![18, v197.toNat]
def k0_off22 (k0_t2 : Fin k0_t2_loop.trips) : Fin 2 → Nat :=
  let c19_i32 : BitVec 32 := 19#32
  let v203 : Index := Scalar.indexCast c19_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v204 : Index := Scalar.indexCast v81
  ![19, v204.toNat]
def k0_off23 (k0_t2 : Fin k0_t2_loop.trips) : Fin 2 → Nat :=
  let c20_i32 : BitVec 32 := 20#32
  let v210 : Index := Scalar.indexCast c20_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v211 : Index := Scalar.indexCast v81
  ![20, v211.toNat]
def k0_off24 (k0_t2 : Fin k0_t2_loop.trips) : Fin 2 → Nat :=
  let c21_i32 : BitVec 32 := 21#32
  let v217 : Index := Scalar.indexCast c21_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v218 : Index := Scalar.indexCast v81
  ![21, v218.toNat]
def k0_off25 (k0_t2 : Fin k0_t2_loop.trips) : Fin 2 → Nat :=
  let c22_i32 : BitVec 32 := 22#32
  let v224 : Index := Scalar.indexCast c22_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v225 : Index := Scalar.indexCast v81
  ![22, v225.toNat]
def k0_off26 (k0_t2 : Fin k0_t2_loop.trips) : Fin 2 → Nat :=
  let c23_i32 : BitVec 32 := 23#32
  let v231 : Index := Scalar.indexCast c23_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v232 : Index := Scalar.indexCast v81
  ![23, v232.toNat]
def k0_off27 (k0_t2 : Fin k0_t2_loop.trips) : Fin 2 → Nat :=
  let c24_i32 : BitVec 32 := 24#32
  let v238 : Index := Scalar.indexCast c24_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v239 : Index := Scalar.indexCast v81
  ![24, v239.toNat]
def k0_off28 (k0_t2 : Fin k0_t2_loop.trips) : Fin 2 → Nat :=
  let c25_i32 : BitVec 32 := 25#32
  let v245 : Index := Scalar.indexCast c25_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v246 : Index := Scalar.indexCast v81
  ![25, v246.toNat]
def k0_off29 (k0_t2 : Fin k0_t2_loop.trips) : Fin 2 → Nat :=
  let c26_i32 : BitVec 32 := 26#32
  let v252 : Index := Scalar.indexCast c26_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v253 : Index := Scalar.indexCast v81
  ![26, v253.toNat]
def k0_off30 (k0_t2 : Fin k0_t2_loop.trips) : Fin 2 → Nat :=
  let c27_i32 : BitVec 32 := 27#32
  let v259 : Index := Scalar.indexCast c27_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v260 : Index := Scalar.indexCast v81
  ![27, v260.toNat]
def k0_off31 (k0_t2 : Fin k0_t2_loop.trips) : Fin 2 → Nat :=
  let c28_i32 : BitVec 32 := 28#32
  let v266 : Index := Scalar.indexCast c28_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v267 : Index := Scalar.indexCast v81
  ![28, v267.toNat]
def k0_off32 (k0_t2 : Fin k0_t2_loop.trips) : Fin 2 → Nat :=
  let c29_i32 : BitVec 32 := 29#32
  let v273 : Index := Scalar.indexCast c29_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v274 : Index := Scalar.indexCast v81
  ![29, v274.toNat]
def k0_off33 (k0_t2 : Fin k0_t2_loop.trips) : Fin 2 → Nat :=
  let c30_i32 : BitVec 32 := 30#32
  let v280 : Index := Scalar.indexCast c30_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v281 : Index := Scalar.indexCast v81
  ![30, v281.toNat]
def k0_off34 (k0_t2 : Fin k0_t2_loop.trips) : Fin 2 → Nat :=
  let c31_i32 : BitVec 32 := 31#32
  let v287 : Index := Scalar.indexCast c31_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v288 : Index := Scalar.indexCast v81
  ![31, v288.toNat]
def k0_off35 (k0_t2 : Fin k0_t2_loop.trips) : Fin 2 → Nat :=
  let c32_i32_85 : BitVec 32 := 32#32
  let v294 : Index := Scalar.indexCast c32_i32_85
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v295 : Index := Scalar.indexCast v81
  ![32, v295.toNat]
def k0_off36 (k0_t2 : Fin k0_t2_loop.trips) : Fin 2 → Nat :=
  let c33_i32 : BitVec 32 := 33#32
  let v301 : Index := Scalar.indexCast c33_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v302 : Index := Scalar.indexCast v81
  ![33, v302.toNat]
def k0_off37 (k0_t2 : Fin k0_t2_loop.trips) : Fin 2 → Nat :=
  let c34_i32 : BitVec 32 := 34#32
  let v308 : Index := Scalar.indexCast c34_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v309 : Index := Scalar.indexCast v81
  ![34, v309.toNat]
def k0_off38 (k0_t2 : Fin k0_t2_loop.trips) : Fin 2 → Nat :=
  let c35_i32 : BitVec 32 := 35#32
  let v315 : Index := Scalar.indexCast c35_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v316 : Index := Scalar.indexCast v81
  ![35, v316.toNat]
def k0_off39 (k0_t2 : Fin k0_t2_loop.trips) : Fin 2 → Nat :=
  let c36_i32 : BitVec 32 := 36#32
  let v322 : Index := Scalar.indexCast c36_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v323 : Index := Scalar.indexCast v81
  ![36, v323.toNat]
def k0_off40 (k0_t2 : Fin k0_t2_loop.trips) : Fin 2 → Nat :=
  let c37_i32 : BitVec 32 := 37#32
  let v329 : Index := Scalar.indexCast c37_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v330 : Index := Scalar.indexCast v81
  ![37, v330.toNat]
def k0_off41 (k0_t2 : Fin k0_t2_loop.trips) : Fin 2 → Nat :=
  let c38_i32 : BitVec 32 := 38#32
  let v336 : Index := Scalar.indexCast c38_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v337 : Index := Scalar.indexCast v81
  ![38, v337.toNat]
def k0_off42 (k0_t2 : Fin k0_t2_loop.trips) : Fin 2 → Nat :=
  let c39_i32 : BitVec 32 := 39#32
  let v343 : Index := Scalar.indexCast c39_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v344 : Index := Scalar.indexCast v81
  ![39, v344.toNat]
def k0_off43 (k0_t2 : Fin k0_t2_loop.trips) : Fin 2 → Nat :=
  let c40_i32 : BitVec 32 := 40#32
  let v350 : Index := Scalar.indexCast c40_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v351 : Index := Scalar.indexCast v81
  ![40, v351.toNat]
def k0_off44 (k0_t2 : Fin k0_t2_loop.trips) : Fin 2 → Nat :=
  let c41_i32 : BitVec 32 := 41#32
  let v357 : Index := Scalar.indexCast c41_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v358 : Index := Scalar.indexCast v81
  ![41, v358.toNat]
def k0_off45 (k0_t2 : Fin k0_t2_loop.trips) : Fin 2 → Nat :=
  let c42_i32 : BitVec 32 := 42#32
  let v364 : Index := Scalar.indexCast c42_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v365 : Index := Scalar.indexCast v81
  ![42, v365.toNat]
def k0_off46 (k0_t2 : Fin k0_t2_loop.trips) : Fin 2 → Nat :=
  let c43_i32 : BitVec 32 := 43#32
  let v371 : Index := Scalar.indexCast c43_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v372 : Index := Scalar.indexCast v81
  ![43, v372.toNat]
def k0_off47 (k0_t2 : Fin k0_t2_loop.trips) : Fin 2 → Nat :=
  let c44_i32 : BitVec 32 := 44#32
  let v378 : Index := Scalar.indexCast c44_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v379 : Index := Scalar.indexCast v81
  ![44, v379.toNat]
def k0_off48 (k0_t2 : Fin k0_t2_loop.trips) : Fin 2 → Nat :=
  let c45_i32 : BitVec 32 := 45#32
  let v385 : Index := Scalar.indexCast c45_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v386 : Index := Scalar.indexCast v81
  ![45, v386.toNat]
def k0_off49 (k0_t2 : Fin k0_t2_loop.trips) : Fin 2 → Nat :=
  let c46_i32 : BitVec 32 := 46#32
  let v392 : Index := Scalar.indexCast c46_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v393 : Index := Scalar.indexCast v81
  ![46, v393.toNat]
def k0_off50 (k0_t2 : Fin k0_t2_loop.trips) : Fin 2 → Nat :=
  let c47_i32 : BitVec 32 := 47#32
  let v399 : Index := Scalar.indexCast c47_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v400 : Index := Scalar.indexCast v81
  ![47, v400.toNat]
def k0_off51 (k0_t2 : Fin k0_t2_loop.trips) : Fin 2 → Nat :=
  let c48_i32 : BitVec 32 := 48#32
  let v406 : Index := Scalar.indexCast c48_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v407 : Index := Scalar.indexCast v81
  ![48, v407.toNat]
def k0_off52 (k0_t2 : Fin k0_t2_loop.trips) : Fin 2 → Nat :=
  let c49_i32 : BitVec 32 := 49#32
  let v413 : Index := Scalar.indexCast c49_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v414 : Index := Scalar.indexCast v81
  ![49, v414.toNat]
def k0_off53 (k0_t2 : Fin k0_t2_loop.trips) : Fin 2 → Nat :=
  let c50_i32 : BitVec 32 := 50#32
  let v420 : Index := Scalar.indexCast c50_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v421 : Index := Scalar.indexCast v81
  ![50, v421.toNat]
def k0_off54 (k0_t2 : Fin k0_t2_loop.trips) : Fin 2 → Nat :=
  let c51_i32 : BitVec 32 := 51#32
  let v427 : Index := Scalar.indexCast c51_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v428 : Index := Scalar.indexCast v81
  ![51, v428.toNat]
def k0_off55 (k0_t2 : Fin k0_t2_loop.trips) : Fin 2 → Nat :=
  let c52_i32 : BitVec 32 := 52#32
  let v434 : Index := Scalar.indexCast c52_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v435 : Index := Scalar.indexCast v81
  ![52, v435.toNat]
def k0_off56 (k0_t2 : Fin k0_t2_loop.trips) : Fin 2 → Nat :=
  let c53_i32 : BitVec 32 := 53#32
  let v441 : Index := Scalar.indexCast c53_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v442 : Index := Scalar.indexCast v81
  ![53, v442.toNat]
def k0_off57 (k0_t2 : Fin k0_t2_loop.trips) : Fin 2 → Nat :=
  let c54_i32 : BitVec 32 := 54#32
  let v448 : Index := Scalar.indexCast c54_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v449 : Index := Scalar.indexCast v81
  ![54, v449.toNat]
def k0_off58 (k0_t2 : Fin k0_t2_loop.trips) : Fin 2 → Nat :=
  let c55_i32 : BitVec 32 := 55#32
  let v455 : Index := Scalar.indexCast c55_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v456 : Index := Scalar.indexCast v81
  ![55, v456.toNat]
def k0_off59 (k0_t2 : Fin k0_t2_loop.trips) : Fin 2 → Nat :=
  let c56_i32 : BitVec 32 := 56#32
  let v462 : Index := Scalar.indexCast c56_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v463 : Index := Scalar.indexCast v81
  ![56, v463.toNat]
def k0_off60 (k0_t2 : Fin k0_t2_loop.trips) : Fin 2 → Nat :=
  let c57_i32 : BitVec 32 := 57#32
  let v469 : Index := Scalar.indexCast c57_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v470 : Index := Scalar.indexCast v81
  ![57, v470.toNat]
def k0_off61 (k0_t2 : Fin k0_t2_loop.trips) : Fin 2 → Nat :=
  let c58_i32 : BitVec 32 := 58#32
  let v476 : Index := Scalar.indexCast c58_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v477 : Index := Scalar.indexCast v81
  ![58, v477.toNat]
def k0_off62 (k0_t2 : Fin k0_t2_loop.trips) : Fin 2 → Nat :=
  let c59_i32 : BitVec 32 := 59#32
  let v483 : Index := Scalar.indexCast c59_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v484 : Index := Scalar.indexCast v81
  ![59, v484.toNat]
def k0_off63 (k0_t2 : Fin k0_t2_loop.trips) : Fin 2 → Nat :=
  let c60_i32 : BitVec 32 := 60#32
  let v490 : Index := Scalar.indexCast c60_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v491 : Index := Scalar.indexCast v81
  ![60, v491.toNat]
def k0_off64 (k0_t2 : Fin k0_t2_loop.trips) : Fin 2 → Nat :=
  let c61_i32 : BitVec 32 := 61#32
  let v497 : Index := Scalar.indexCast c61_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v498 : Index := Scalar.indexCast v81
  ![61, v498.toNat]
def k0_off65 (k0_t2 : Fin k0_t2_loop.trips) : Fin 2 → Nat :=
  let c62_i32 : BitVec 32 := 62#32
  let v504 : Index := Scalar.indexCast c62_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v505 : Index := Scalar.indexCast v81
  ![62, v505.toNat]
def k0_off66 (k0_t2 : Fin k0_t2_loop.trips) : Fin 2 → Nat :=
  let c63_i32 : BitVec 32 := 63#32
  let v511 : Index := Scalar.indexCast c63_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v512 : Index := Scalar.indexCast v81
  ![63, v512.toNat]
def k0_off67 (k0_t2 : Fin k0_t2_loop.trips) : Fin 2 → Nat :=
  let c64_i32 : BitVec 32 := 64#32
  let v518 : Index := Scalar.indexCast c64_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v519 : Index := Scalar.indexCast v81
  ![64, v519.toNat]
def k0_off68 (k0_t2 : Fin k0_t2_loop.trips) : Fin 2 → Nat :=
  let c65_i32 : BitVec 32 := 65#32
  let v525 : Index := Scalar.indexCast c65_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v526 : Index := Scalar.indexCast v81
  ![65, v526.toNat]
def k0_off69 (k0_t2 : Fin k0_t2_loop.trips) : Fin 2 → Nat :=
  let c66_i32 : BitVec 32 := 66#32
  let v532 : Index := Scalar.indexCast c66_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v533 : Index := Scalar.indexCast v81
  ![66, v533.toNat]
def k0_off70 (k0_t2 : Fin k0_t2_loop.trips) : Fin 2 → Nat :=
  let c67_i32 : BitVec 32 := 67#32
  let v539 : Index := Scalar.indexCast c67_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v540 : Index := Scalar.indexCast v81
  ![67, v540.toNat]
def k0_off71 (k0_t2 : Fin k0_t2_loop.trips) : Fin 2 → Nat :=
  let c68_i32 : BitVec 32 := 68#32
  let v546 : Index := Scalar.indexCast c68_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v547 : Index := Scalar.indexCast v81
  ![68, v547.toNat]
def k0_off72 (k0_t2 : Fin k0_t2_loop.trips) : Fin 2 → Nat :=
  let c69_i32 : BitVec 32 := 69#32
  let v553 : Index := Scalar.indexCast c69_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v554 : Index := Scalar.indexCast v81
  ![69, v554.toNat]
def k0_off73 (k0_t2 : Fin k0_t2_loop.trips) : Fin 2 → Nat :=
  let c70_i32 : BitVec 32 := 70#32
  let v560 : Index := Scalar.indexCast c70_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v561 : Index := Scalar.indexCast v81
  ![70, v561.toNat]
def k0_off74 (k0_t2 : Fin k0_t2_loop.trips) : Fin 2 → Nat :=
  let c71_i32 : BitVec 32 := 71#32
  let v567 : Index := Scalar.indexCast c71_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v568 : Index := Scalar.indexCast v81
  ![71, v568.toNat]
def k0_off75 (k0_t2 : Fin k0_t2_loop.trips) : Fin 2 → Nat :=
  let c72_i32 : BitVec 32 := 72#32
  let v574 : Index := Scalar.indexCast c72_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v575 : Index := Scalar.indexCast v81
  ![72, v575.toNat]
def k0_off76 (k0_t2 : Fin k0_t2_loop.trips) : Fin 2 → Nat :=
  let c73_i32 : BitVec 32 := 73#32
  let v581 : Index := Scalar.indexCast c73_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v582 : Index := Scalar.indexCast v81
  ![73, v582.toNat]
def k0_off77 (k0_t2 : Fin k0_t2_loop.trips) : Fin 2 → Nat :=
  let c74_i32 : BitVec 32 := 74#32
  let v588 : Index := Scalar.indexCast c74_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v589 : Index := Scalar.indexCast v81
  ![74, v589.toNat]
def k0_off78 (k0_t2 : Fin k0_t2_loop.trips) : Fin 2 → Nat :=
  let c75_i32 : BitVec 32 := 75#32
  let v595 : Index := Scalar.indexCast c75_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v596 : Index := Scalar.indexCast v81
  ![75, v596.toNat]
def k0_off79 (k0_t2 : Fin k0_t2_loop.trips) : Fin 2 → Nat :=
  let c76_i32 : BitVec 32 := 76#32
  let v602 : Index := Scalar.indexCast c76_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v603 : Index := Scalar.indexCast v81
  ![76, v603.toNat]
def k0_off80 (k0_t2 : Fin k0_t2_loop.trips) : Fin 2 → Nat :=
  let c77_i32 : BitVec 32 := 77#32
  let v609 : Index := Scalar.indexCast c77_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v610 : Index := Scalar.indexCast v81
  ![77, v610.toNat]
def k0_off81 (k0_t2 : Fin k0_t2_loop.trips) : Fin 2 → Nat :=
  let c78_i32 : BitVec 32 := 78#32
  let v616 : Index := Scalar.indexCast c78_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v617 : Index := Scalar.indexCast v81
  ![78, v617.toNat]
def k0_off82 (k0_t2 : Fin k0_t2_loop.trips) : Fin 2 → Nat :=
  let c79_i32 : BitVec 32 := 79#32
  let v623 : Index := Scalar.indexCast c79_i32
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v624 : Index := Scalar.indexCast v81
  ![79, v624.toNat]
def k0_off83 (k0_t2 : Fin k0_t2_loop.trips) : Fin 1 → Nat :=
  let c0_i32_47 : BitVec 32 := 0#32
  let c0_i32_40 : BitVec 32 := 0#32
  let c1_i32_41 : BitVec 32 := 1#32
  let arg15 : BitVec 32 := Scf.iv c0_i32_40 c1_i32_41 k0_t2
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v654 : Index := Scalar.indexCast v81
  ![v654.toNat]
def k0_off84 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_31 : BitVec 32 := 2#32
  let c0_i32_22 : BitVec 32 := 0#32
  let c0_i32_23 : BitVec 32 := 0#32
  let c1_i32_25 : BitVec 32 := 1#32
  let arg14 : BitVec 32 := Scf.iv c0_i32_23 c1_i32_25 k0_t1
  let c1_i32_21 : BitVec 32 := 1#32
  let v58 : BitVec 32 := Scalar.muli arg14 c1_i32_21
  let v59 : BitVec 32 := Scalar.addi c0_i32_22 v58
  let v60 : BitVec 32 := Scalar.muli c2_i32_31 v59
  let c32_i32_43 : BitVec 32 := 32#32
  let v71 : BitVec 32 := Scalar.muli v60 c32_i32_43
  let v72 : BitVec 32 := Scalar.addi v1 v71
  let c128_i32_44 : BitVec 32 := 128#32
  let v73 : BitVec 32 := Scalar.muli v72 c128_i32_44
  ![v73.toNat]
def k0_cond3 (i : grid0.Coords) (k0_t1 : Fin (k0_t1_loop i).trips) : BitVec 1 :=
  let c2_i32_31 : BitVec 32 := 2#32
  let c0_i32_22 : BitVec 32 := 0#32
  let c0_i32_23 : BitVec 32 := 0#32
  let c1_i32_25 : BitVec 32 := 1#32
  let arg14 : BitVec 32 := Scf.iv c0_i32_23 c1_i32_25 k0_t1
  let c1_i32_21 : BitVec 32 := 1#32
  let v58 : BitVec 32 := Scalar.muli arg14 c1_i32_21
  let v59 : BitVec 32 := Scalar.addi c0_i32_22 v58
  let v60 : BitVec 32 := Scalar.muli c2_i32_31 v59
  let c1_i32_32 : BitVec 32 := 1#32
  let v61 : BitVec 32 := Scalar.addi v60 c1_i32_32
  let c1536_i32 : BitVec 32 := 1536#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.subi c1536_i32 v1
  let c32_i32 : BitVec 32 := 32#32
  let v4 : BitVec 32 := Scalar.addi v3 c32_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c32_i32_0 : BitVec 32 := 32#32
  let c0_i32_2 : BitVec 32 := 0#32
  let v12 : BitVec 1 := Scalar.cmpi .sgt c32_i32_0 c0_i32_2
  let v13 : BitVec 32 := Scalar.extui v12
  let c0_i32_3 : BitVec 32 := 0#32
  let v14 : BitVec 1 := Scalar.cmpi .slt c32_i32_0 c0_i32_3
  let v15 : BitVec 32 := Scalar.extui v14
  let v16 : BitVec 32 := Scalar.subi v13 v15
  let v17 : BitVec 1 := Scalar.cmpi .ne v11 v16
  let v18 : BitVec 32 := Scalar.remsi v5 c32_i32_0
  let c0_i32_4 : BitVec 32 := 0#32
  let v19 : BitVec 1 := Scalar.cmpi .ne v18 c0_i32_4
  let v20 : BitVec 1 := Scalar.andi v17 v19
  let v6 : BitVec 32 := Scalar.divsi v5 c32_i32_0
  let c1_i32_5 : BitVec 32 := 1#32
  let v21 : BitVec 32 := Scalar.subi v6 c1_i32_5
  let v22 : BitVec 32 := Scalar.select v20 v21 v6
  let v76 : BitVec 1 := Scalar.cmpi .slt v61 v22
  let v77 : BitVec 32 := Scalar.extui v76
  let c0_i32_45 : BitVec 32 := 0#32
  let v78 : BitVec 1 := Scalar.cmpi .ne v77 c0_i32_45
  v78

def k0_cond4 (i : grid0.Coords) (k0_t1 : Fin (k0_t1_loop i).trips) : BitVec 1 :=
  let c2_i32_31 : BitVec 32 := 2#32
  let c0_i32_22 : BitVec 32 := 0#32
  let c0_i32_23 : BitVec 32 := 0#32
  let c1_i32_25 : BitVec 32 := 1#32
  let arg14 : BitVec 32 := Scf.iv c0_i32_23 c1_i32_25 k0_t1
  let c1_i32_21 : BitVec 32 := 1#32
  let v58 : BitVec 32 := Scalar.muli arg14 c1_i32_21
  let v59 : BitVec 32 := Scalar.addi c0_i32_22 v58
  let v60 : BitVec 32 := Scalar.muli c2_i32_31 v59
  let c2_i32_46 : BitVec 32 := 2#32
  let v79 : BitVec 32 := Scalar.addi v60 c2_i32_46
  let c1536_i32 : BitVec 32 := 1536#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.subi c1536_i32 v1
  let c32_i32 : BitVec 32 := 32#32
  let v4 : BitVec 32 := Scalar.addi v3 c32_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c32_i32_0 : BitVec 32 := 32#32
  let c0_i32_2 : BitVec 32 := 0#32
  let v12 : BitVec 1 := Scalar.cmpi .sgt c32_i32_0 c0_i32_2
  let v13 : BitVec 32 := Scalar.extui v12
  let c0_i32_3 : BitVec 32 := 0#32
  let v14 : BitVec 1 := Scalar.cmpi .slt c32_i32_0 c0_i32_3
  let v15 : BitVec 32 := Scalar.extui v14
  let v16 : BitVec 32 := Scalar.subi v13 v15
  let v17 : BitVec 1 := Scalar.cmpi .ne v11 v16
  let v18 : BitVec 32 := Scalar.remsi v5 c32_i32_0
  let c0_i32_4 : BitVec 32 := 0#32
  let v19 : BitVec 1 := Scalar.cmpi .ne v18 c0_i32_4
  let v20 : BitVec 1 := Scalar.andi v17 v19
  let v6 : BitVec 32 := Scalar.divsi v5 c32_i32_0
  let c1_i32_5 : BitVec 32 := 1#32
  let v21 : BitVec 32 := Scalar.subi v6 c1_i32_5
  let v22 : BitVec 32 := Scalar.select v20 v21 v6
  let v80 : BitVec 1 := Scalar.cmpi .slt v79 v22
  let v81 : BitVec 32 := Scalar.extui v80
  let c0_i32_47 : BitVec 32 := 0#32
  let v82 : BitVec 1 := Scalar.cmpi .ne v81 c0_i32_47
  v82

def k0_off85 (i : grid0.Coords) (k0_t1 : Fin (k0_t1_loop i).trips) : Fin 2 → Nat :=
  let c0_i32_63 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_31 : BitVec 32 := 2#32
  let c0_i32_22 : BitVec 32 := 0#32
  let c0_i32_23 : BitVec 32 := 0#32
  let c1_i32_25 : BitVec 32 := 1#32
  let arg14 : BitVec 32 := Scf.iv c0_i32_23 c1_i32_25 k0_t1
  let c1_i32_21 : BitVec 32 := 1#32
  let v58 : BitVec 32 := Scalar.muli arg14 c1_i32_21
  let v59 : BitVec 32 := Scalar.addi c0_i32_22 v58
  let v60 : BitVec 32 := Scalar.muli c2_i32_31 v59
  let c2_i32_60 : BitVec 32 := 2#32
  let v94 : BitVec 32 := Scalar.addi v60 c2_i32_60
  let c32_i32_61 : BitVec 32 := 32#32
  let v95 : BitVec 32 := Scalar.muli v94 c32_i32_61
  let v96 : BitVec 32 := Scalar.addi v1 v95
  let c128_i32_62 : BitVec 32 := 128#32
  let v97 : BitVec 32 := Scalar.muli v96 c128_i32_62
  ![0, v97.toNat]
@[reducible] def k0_t3_loop : Scf.Loop 32 :=
  let c0_i32_54 : BitVec 32 := 0#32
  let c8_i32_55 : BitVec 32 := 8#32
  let v88 : BitVec 32 := Scalar.addi c0_i32_54 c8_i32_55
  let c1_i32_56 : BitVec 32 := 1#32
  ⟨c0_i32_54, v88, c1_i32_56⟩
def k0_off86 (k0_t3 : Fin k0_t3_loop.trips) : Fin 2 → Nat :=
  let c0_i32_62 : BitVec 32 := 0#32
  let v97 : Index := Scalar.indexCast c0_i32_62
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v98 : Index := Scalar.indexCast v96
  ![0, v98.toNat]
def k0_off87 (k0_t3 : Fin k0_t3_loop.trips) : Fin 2 → Nat :=
  let c1_i32_64 : BitVec 32 := 1#32
  let v101 : Index := Scalar.indexCast c1_i32_64
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v102 : Index := Scalar.indexCast v96
  ![1, v102.toNat]
def k0_off88 (k0_t3 : Fin k0_t3_loop.trips) : Fin 2 → Nat :=
  let c2_i32_66 : BitVec 32 := 2#32
  let v105 : Index := Scalar.indexCast c2_i32_66
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v106 : Index := Scalar.indexCast v96
  ![2, v106.toNat]
def k0_off89 (k0_t3 : Fin k0_t3_loop.trips) : Fin 2 → Nat :=
  let c3_i32 : BitVec 32 := 3#32
  let v109 : Index := Scalar.indexCast c3_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v110 : Index := Scalar.indexCast v96
  ![3, v110.toNat]
def k0_off90 (k0_t3 : Fin k0_t3_loop.trips) : Fin 2 → Nat :=
  let c4_i32 : BitVec 32 := 4#32
  let v113 : Index := Scalar.indexCast c4_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v114 : Index := Scalar.indexCast v96
  ![4, v114.toNat]
def k0_off91 (k0_t3 : Fin k0_t3_loop.trips) : Fin 2 → Nat :=
  let c5_i32 : BitVec 32 := 5#32
  let v120 : Index := Scalar.indexCast c5_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v121 : Index := Scalar.indexCast v96
  ![5, v121.toNat]
def k0_off92 (k0_t3 : Fin k0_t3_loop.trips) : Fin 2 → Nat :=
  let c6_i32 : BitVec 32 := 6#32
  let v127 : Index := Scalar.indexCast c6_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v128 : Index := Scalar.indexCast v96
  ![6, v128.toNat]
def k0_off93 (k0_t3 : Fin k0_t3_loop.trips) : Fin 2 → Nat :=
  let c7_i32 : BitVec 32 := 7#32
  let v134 : Index := Scalar.indexCast c7_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v135 : Index := Scalar.indexCast v96
  ![7, v135.toNat]
def k0_off94 (k0_t3 : Fin k0_t3_loop.trips) : Fin 2 → Nat :=
  let c8_i32_73 : BitVec 32 := 8#32
  let v141 : Index := Scalar.indexCast c8_i32_73
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v142 : Index := Scalar.indexCast v96
  ![8, v142.toNat]
def k0_off95 (k0_t3 : Fin k0_t3_loop.trips) : Fin 2 → Nat :=
  let c9_i32 : BitVec 32 := 9#32
  let v148 : Index := Scalar.indexCast c9_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v149 : Index := Scalar.indexCast v96
  ![9, v149.toNat]
def k0_off96 (k0_t3 : Fin k0_t3_loop.trips) : Fin 2 → Nat :=
  let c10_i32 : BitVec 32 := 10#32
  let v155 : Index := Scalar.indexCast c10_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v156 : Index := Scalar.indexCast v96
  ![10, v156.toNat]
def k0_off97 (k0_t3 : Fin k0_t3_loop.trips) : Fin 2 → Nat :=
  let c11_i32 : BitVec 32 := 11#32
  let v162 : Index := Scalar.indexCast c11_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v163 : Index := Scalar.indexCast v96
  ![11, v163.toNat]
def k0_off98 (k0_t3 : Fin k0_t3_loop.trips) : Fin 2 → Nat :=
  let c12_i32 : BitVec 32 := 12#32
  let v169 : Index := Scalar.indexCast c12_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v170 : Index := Scalar.indexCast v96
  ![12, v170.toNat]
def k0_off99 (k0_t3 : Fin k0_t3_loop.trips) : Fin 2 → Nat :=
  let c13_i32 : BitVec 32 := 13#32
  let v176 : Index := Scalar.indexCast c13_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v177 : Index := Scalar.indexCast v96
  ![13, v177.toNat]
def k0_off100 (k0_t3 : Fin k0_t3_loop.trips) : Fin 2 → Nat :=
  let c14_i32 : BitVec 32 := 14#32
  let v183 : Index := Scalar.indexCast c14_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v184 : Index := Scalar.indexCast v96
  ![14, v184.toNat]
def k0_off101 (k0_t3 : Fin k0_t3_loop.trips) : Fin 2 → Nat :=
  let c15_i32 : BitVec 32 := 15#32
  let v190 : Index := Scalar.indexCast c15_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v191 : Index := Scalar.indexCast v96
  ![15, v191.toNat]
def k0_off102 (k0_t3 : Fin k0_t3_loop.trips) : Fin 2 → Nat :=
  let c16_i32_82 : BitVec 32 := 16#32
  let v197 : Index := Scalar.indexCast c16_i32_82
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v198 : Index := Scalar.indexCast v96
  ![16, v198.toNat]
def k0_off103 (k0_t3 : Fin k0_t3_loop.trips) : Fin 2 → Nat :=
  let c17_i32 : BitVec 32 := 17#32
  let v204 : Index := Scalar.indexCast c17_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v205 : Index := Scalar.indexCast v96
  ![17, v205.toNat]
def k0_off104 (k0_t3 : Fin k0_t3_loop.trips) : Fin 2 → Nat :=
  let c18_i32 : BitVec 32 := 18#32
  let v211 : Index := Scalar.indexCast c18_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v212 : Index := Scalar.indexCast v96
  ![18, v212.toNat]
def k0_off105 (k0_t3 : Fin k0_t3_loop.trips) : Fin 2 → Nat :=
  let c19_i32 : BitVec 32 := 19#32
  let v218 : Index := Scalar.indexCast c19_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v219 : Index := Scalar.indexCast v96
  ![19, v219.toNat]
def k0_off106 (k0_t3 : Fin k0_t3_loop.trips) : Fin 2 → Nat :=
  let c20_i32 : BitVec 32 := 20#32
  let v225 : Index := Scalar.indexCast c20_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v226 : Index := Scalar.indexCast v96
  ![20, v226.toNat]
def k0_off107 (k0_t3 : Fin k0_t3_loop.trips) : Fin 2 → Nat :=
  let c21_i32 : BitVec 32 := 21#32
  let v232 : Index := Scalar.indexCast c21_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v233 : Index := Scalar.indexCast v96
  ![21, v233.toNat]
def k0_off108 (k0_t3 : Fin k0_t3_loop.trips) : Fin 2 → Nat :=
  let c22_i32 : BitVec 32 := 22#32
  let v239 : Index := Scalar.indexCast c22_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v240 : Index := Scalar.indexCast v96
  ![22, v240.toNat]
def k0_off109 (k0_t3 : Fin k0_t3_loop.trips) : Fin 2 → Nat :=
  let c23_i32 : BitVec 32 := 23#32
  let v246 : Index := Scalar.indexCast c23_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v247 : Index := Scalar.indexCast v96
  ![23, v247.toNat]
def k0_off110 (k0_t3 : Fin k0_t3_loop.trips) : Fin 2 → Nat :=
  let c24_i32 : BitVec 32 := 24#32
  let v253 : Index := Scalar.indexCast c24_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v254 : Index := Scalar.indexCast v96
  ![24, v254.toNat]
def k0_off111 (k0_t3 : Fin k0_t3_loop.trips) : Fin 2 → Nat :=
  let c25_i32 : BitVec 32 := 25#32
  let v260 : Index := Scalar.indexCast c25_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v261 : Index := Scalar.indexCast v96
  ![25, v261.toNat]
def k0_off112 (k0_t3 : Fin k0_t3_loop.trips) : Fin 2 → Nat :=
  let c26_i32 : BitVec 32 := 26#32
  let v267 : Index := Scalar.indexCast c26_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v268 : Index := Scalar.indexCast v96
  ![26, v268.toNat]
def k0_off113 (k0_t3 : Fin k0_t3_loop.trips) : Fin 2 → Nat :=
  let c27_i32 : BitVec 32 := 27#32
  let v274 : Index := Scalar.indexCast c27_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v275 : Index := Scalar.indexCast v96
  ![27, v275.toNat]
def k0_off114 (k0_t3 : Fin k0_t3_loop.trips) : Fin 2 → Nat :=
  let c28_i32 : BitVec 32 := 28#32
  let v281 : Index := Scalar.indexCast c28_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v282 : Index := Scalar.indexCast v96
  ![28, v282.toNat]
def k0_off115 (k0_t3 : Fin k0_t3_loop.trips) : Fin 2 → Nat :=
  let c29_i32 : BitVec 32 := 29#32
  let v288 : Index := Scalar.indexCast c29_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v289 : Index := Scalar.indexCast v96
  ![29, v289.toNat]
def k0_off116 (k0_t3 : Fin k0_t3_loop.trips) : Fin 2 → Nat :=
  let c30_i32 : BitVec 32 := 30#32
  let v295 : Index := Scalar.indexCast c30_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v296 : Index := Scalar.indexCast v96
  ![30, v296.toNat]
def k0_off117 (k0_t3 : Fin k0_t3_loop.trips) : Fin 2 → Nat :=
  let c31_i32 : BitVec 32 := 31#32
  let v302 : Index := Scalar.indexCast c31_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v303 : Index := Scalar.indexCast v96
  ![31, v303.toNat]
def k0_off118 (k0_t3 : Fin k0_t3_loop.trips) : Fin 2 → Nat :=
  let c32_i32_99 : BitVec 32 := 32#32
  let v309 : Index := Scalar.indexCast c32_i32_99
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v310 : Index := Scalar.indexCast v96
  ![32, v310.toNat]
def k0_off119 (k0_t3 : Fin k0_t3_loop.trips) : Fin 2 → Nat :=
  let c33_i32 : BitVec 32 := 33#32
  let v316 : Index := Scalar.indexCast c33_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v317 : Index := Scalar.indexCast v96
  ![33, v317.toNat]
def k0_off120 (k0_t3 : Fin k0_t3_loop.trips) : Fin 2 → Nat :=
  let c34_i32 : BitVec 32 := 34#32
  let v323 : Index := Scalar.indexCast c34_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v324 : Index := Scalar.indexCast v96
  ![34, v324.toNat]
def k0_off121 (k0_t3 : Fin k0_t3_loop.trips) : Fin 2 → Nat :=
  let c35_i32 : BitVec 32 := 35#32
  let v330 : Index := Scalar.indexCast c35_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v331 : Index := Scalar.indexCast v96
  ![35, v331.toNat]
def k0_off122 (k0_t3 : Fin k0_t3_loop.trips) : Fin 2 → Nat :=
  let c36_i32 : BitVec 32 := 36#32
  let v337 : Index := Scalar.indexCast c36_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v338 : Index := Scalar.indexCast v96
  ![36, v338.toNat]
def k0_off123 (k0_t3 : Fin k0_t3_loop.trips) : Fin 2 → Nat :=
  let c37_i32 : BitVec 32 := 37#32
  let v344 : Index := Scalar.indexCast c37_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v345 : Index := Scalar.indexCast v96
  ![37, v345.toNat]
def k0_off124 (k0_t3 : Fin k0_t3_loop.trips) : Fin 2 → Nat :=
  let c38_i32 : BitVec 32 := 38#32
  let v351 : Index := Scalar.indexCast c38_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v352 : Index := Scalar.indexCast v96
  ![38, v352.toNat]
def k0_off125 (k0_t3 : Fin k0_t3_loop.trips) : Fin 2 → Nat :=
  let c39_i32 : BitVec 32 := 39#32
  let v358 : Index := Scalar.indexCast c39_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v359 : Index := Scalar.indexCast v96
  ![39, v359.toNat]
def k0_off126 (k0_t3 : Fin k0_t3_loop.trips) : Fin 2 → Nat :=
  let c40_i32 : BitVec 32 := 40#32
  let v365 : Index := Scalar.indexCast c40_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v366 : Index := Scalar.indexCast v96
  ![40, v366.toNat]
def k0_off127 (k0_t3 : Fin k0_t3_loop.trips) : Fin 2 → Nat :=
  let c41_i32 : BitVec 32 := 41#32
  let v372 : Index := Scalar.indexCast c41_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v373 : Index := Scalar.indexCast v96
  ![41, v373.toNat]
def k0_off128 (k0_t3 : Fin k0_t3_loop.trips) : Fin 2 → Nat :=
  let c42_i32 : BitVec 32 := 42#32
  let v379 : Index := Scalar.indexCast c42_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v380 : Index := Scalar.indexCast v96
  ![42, v380.toNat]
def k0_off129 (k0_t3 : Fin k0_t3_loop.trips) : Fin 2 → Nat :=
  let c43_i32 : BitVec 32 := 43#32
  let v386 : Index := Scalar.indexCast c43_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v387 : Index := Scalar.indexCast v96
  ![43, v387.toNat]
def k0_off130 (k0_t3 : Fin k0_t3_loop.trips) : Fin 2 → Nat :=
  let c44_i32 : BitVec 32 := 44#32
  let v393 : Index := Scalar.indexCast c44_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v394 : Index := Scalar.indexCast v96
  ![44, v394.toNat]
def k0_off131 (k0_t3 : Fin k0_t3_loop.trips) : Fin 2 → Nat :=
  let c45_i32 : BitVec 32 := 45#32
  let v400 : Index := Scalar.indexCast c45_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v401 : Index := Scalar.indexCast v96
  ![45, v401.toNat]
def k0_off132 (k0_t3 : Fin k0_t3_loop.trips) : Fin 2 → Nat :=
  let c46_i32 : BitVec 32 := 46#32
  let v407 : Index := Scalar.indexCast c46_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v408 : Index := Scalar.indexCast v96
  ![46, v408.toNat]
def k0_off133 (k0_t3 : Fin k0_t3_loop.trips) : Fin 2 → Nat :=
  let c47_i32 : BitVec 32 := 47#32
  let v414 : Index := Scalar.indexCast c47_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v415 : Index := Scalar.indexCast v96
  ![47, v415.toNat]
def k0_off134 (k0_t3 : Fin k0_t3_loop.trips) : Fin 2 → Nat :=
  let c48_i32 : BitVec 32 := 48#32
  let v421 : Index := Scalar.indexCast c48_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v422 : Index := Scalar.indexCast v96
  ![48, v422.toNat]
def k0_off135 (k0_t3 : Fin k0_t3_loop.trips) : Fin 2 → Nat :=
  let c49_i32 : BitVec 32 := 49#32
  let v428 : Index := Scalar.indexCast c49_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v429 : Index := Scalar.indexCast v96
  ![49, v429.toNat]
def k0_off136 (k0_t3 : Fin k0_t3_loop.trips) : Fin 2 → Nat :=
  let c50_i32 : BitVec 32 := 50#32
  let v435 : Index := Scalar.indexCast c50_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v436 : Index := Scalar.indexCast v96
  ![50, v436.toNat]
def k0_off137 (k0_t3 : Fin k0_t3_loop.trips) : Fin 2 → Nat :=
  let c51_i32 : BitVec 32 := 51#32
  let v442 : Index := Scalar.indexCast c51_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v443 : Index := Scalar.indexCast v96
  ![51, v443.toNat]
def k0_off138 (k0_t3 : Fin k0_t3_loop.trips) : Fin 2 → Nat :=
  let c52_i32 : BitVec 32 := 52#32
  let v449 : Index := Scalar.indexCast c52_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v450 : Index := Scalar.indexCast v96
  ![52, v450.toNat]
def k0_off139 (k0_t3 : Fin k0_t3_loop.trips) : Fin 2 → Nat :=
  let c53_i32 : BitVec 32 := 53#32
  let v456 : Index := Scalar.indexCast c53_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v457 : Index := Scalar.indexCast v96
  ![53, v457.toNat]
def k0_off140 (k0_t3 : Fin k0_t3_loop.trips) : Fin 2 → Nat :=
  let c54_i32 : BitVec 32 := 54#32
  let v463 : Index := Scalar.indexCast c54_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v464 : Index := Scalar.indexCast v96
  ![54, v464.toNat]
def k0_off141 (k0_t3 : Fin k0_t3_loop.trips) : Fin 2 → Nat :=
  let c55_i32 : BitVec 32 := 55#32
  let v470 : Index := Scalar.indexCast c55_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v471 : Index := Scalar.indexCast v96
  ![55, v471.toNat]
def k0_off142 (k0_t3 : Fin k0_t3_loop.trips) : Fin 2 → Nat :=
  let c56_i32 : BitVec 32 := 56#32
  let v477 : Index := Scalar.indexCast c56_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v478 : Index := Scalar.indexCast v96
  ![56, v478.toNat]
def k0_off143 (k0_t3 : Fin k0_t3_loop.trips) : Fin 2 → Nat :=
  let c57_i32 : BitVec 32 := 57#32
  let v484 : Index := Scalar.indexCast c57_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v485 : Index := Scalar.indexCast v96
  ![57, v485.toNat]
def k0_off144 (k0_t3 : Fin k0_t3_loop.trips) : Fin 2 → Nat :=
  let c58_i32 : BitVec 32 := 58#32
  let v491 : Index := Scalar.indexCast c58_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v492 : Index := Scalar.indexCast v96
  ![58, v492.toNat]
def k0_off145 (k0_t3 : Fin k0_t3_loop.trips) : Fin 2 → Nat :=
  let c59_i32 : BitVec 32 := 59#32
  let v498 : Index := Scalar.indexCast c59_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v499 : Index := Scalar.indexCast v96
  ![59, v499.toNat]
def k0_off146 (k0_t3 : Fin k0_t3_loop.trips) : Fin 2 → Nat :=
  let c60_i32 : BitVec 32 := 60#32
  let v505 : Index := Scalar.indexCast c60_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v506 : Index := Scalar.indexCast v96
  ![60, v506.toNat]
def k0_off147 (k0_t3 : Fin k0_t3_loop.trips) : Fin 2 → Nat :=
  let c61_i32 : BitVec 32 := 61#32
  let v512 : Index := Scalar.indexCast c61_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v513 : Index := Scalar.indexCast v96
  ![61, v513.toNat]
def k0_off148 (k0_t3 : Fin k0_t3_loop.trips) : Fin 2 → Nat :=
  let c62_i32 : BitVec 32 := 62#32
  let v519 : Index := Scalar.indexCast c62_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v520 : Index := Scalar.indexCast v96
  ![62, v520.toNat]
def k0_off149 (k0_t3 : Fin k0_t3_loop.trips) : Fin 2 → Nat :=
  let c63_i32 : BitVec 32 := 63#32
  let v526 : Index := Scalar.indexCast c63_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v527 : Index := Scalar.indexCast v96
  ![63, v527.toNat]
def k0_off150 (k0_t3 : Fin k0_t3_loop.trips) : Fin 2 → Nat :=
  let c64_i32 : BitVec 32 := 64#32
  let v533 : Index := Scalar.indexCast c64_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v534 : Index := Scalar.indexCast v96
  ![64, v534.toNat]
def k0_off151 (k0_t3 : Fin k0_t3_loop.trips) : Fin 2 → Nat :=
  let c65_i32 : BitVec 32 := 65#32
  let v540 : Index := Scalar.indexCast c65_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v541 : Index := Scalar.indexCast v96
  ![65, v541.toNat]
def k0_off152 (k0_t3 : Fin k0_t3_loop.trips) : Fin 2 → Nat :=
  let c66_i32 : BitVec 32 := 66#32
  let v547 : Index := Scalar.indexCast c66_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v548 : Index := Scalar.indexCast v96
  ![66, v548.toNat]
def k0_off153 (k0_t3 : Fin k0_t3_loop.trips) : Fin 2 → Nat :=
  let c67_i32 : BitVec 32 := 67#32
  let v554 : Index := Scalar.indexCast c67_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v555 : Index := Scalar.indexCast v96
  ![67, v555.toNat]
def k0_off154 (k0_t3 : Fin k0_t3_loop.trips) : Fin 2 → Nat :=
  let c68_i32 : BitVec 32 := 68#32
  let v561 : Index := Scalar.indexCast c68_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v562 : Index := Scalar.indexCast v96
  ![68, v562.toNat]
def k0_off155 (k0_t3 : Fin k0_t3_loop.trips) : Fin 2 → Nat :=
  let c69_i32 : BitVec 32 := 69#32
  let v568 : Index := Scalar.indexCast c69_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v569 : Index := Scalar.indexCast v96
  ![69, v569.toNat]
def k0_off156 (k0_t3 : Fin k0_t3_loop.trips) : Fin 2 → Nat :=
  let c70_i32 : BitVec 32 := 70#32
  let v575 : Index := Scalar.indexCast c70_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v576 : Index := Scalar.indexCast v96
  ![70, v576.toNat]
def k0_off157 (k0_t3 : Fin k0_t3_loop.trips) : Fin 2 → Nat :=
  let c71_i32 : BitVec 32 := 71#32
  let v582 : Index := Scalar.indexCast c71_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v583 : Index := Scalar.indexCast v96
  ![71, v583.toNat]
def k0_off158 (k0_t3 : Fin k0_t3_loop.trips) : Fin 2 → Nat :=
  let c72_i32 : BitVec 32 := 72#32
  let v589 : Index := Scalar.indexCast c72_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v590 : Index := Scalar.indexCast v96
  ![72, v590.toNat]
def k0_off159 (k0_t3 : Fin k0_t3_loop.trips) : Fin 2 → Nat :=
  let c73_i32 : BitVec 32 := 73#32
  let v596 : Index := Scalar.indexCast c73_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v597 : Index := Scalar.indexCast v96
  ![73, v597.toNat]
def k0_off160 (k0_t3 : Fin k0_t3_loop.trips) : Fin 2 → Nat :=
  let c74_i32 : BitVec 32 := 74#32
  let v603 : Index := Scalar.indexCast c74_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v604 : Index := Scalar.indexCast v96
  ![74, v604.toNat]
def k0_off161 (k0_t3 : Fin k0_t3_loop.trips) : Fin 2 → Nat :=
  let c75_i32 : BitVec 32 := 75#32
  let v610 : Index := Scalar.indexCast c75_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v611 : Index := Scalar.indexCast v96
  ![75, v611.toNat]
def k0_off162 (k0_t3 : Fin k0_t3_loop.trips) : Fin 2 → Nat :=
  let c76_i32 : BitVec 32 := 76#32
  let v617 : Index := Scalar.indexCast c76_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v618 : Index := Scalar.indexCast v96
  ![76, v618.toNat]
def k0_off163 (k0_t3 : Fin k0_t3_loop.trips) : Fin 2 → Nat :=
  let c77_i32 : BitVec 32 := 77#32
  let v624 : Index := Scalar.indexCast c77_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v625 : Index := Scalar.indexCast v96
  ![77, v625.toNat]
def k0_off164 (k0_t3 : Fin k0_t3_loop.trips) : Fin 2 → Nat :=
  let c78_i32 : BitVec 32 := 78#32
  let v631 : Index := Scalar.indexCast c78_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v632 : Index := Scalar.indexCast v96
  ![78, v632.toNat]
def k0_off165 (k0_t3 : Fin k0_t3_loop.trips) : Fin 2 → Nat :=
  let c79_i32 : BitVec 32 := 79#32
  let v638 : Index := Scalar.indexCast c79_i32
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v639 : Index := Scalar.indexCast v96
  ![79, v639.toNat]
def k0_off166 (k0_t3 : Fin k0_t3_loop.trips) : Fin 1 → Nat :=
  let c0_i32_61 : BitVec 32 := 0#32
  let c0_i32_54 : BitVec 32 := 0#32
  let c1_i32_56 : BitVec 32 := 1#32
  let arg15 : BitVec 32 := Scf.iv c0_i32_54 c1_i32_56 k0_t3
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v669 : Index := Scalar.indexCast v96
  ![v669.toNat]
def k0_off167 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_31 : BitVec 32 := 2#32
  let c0_i32_22 : BitVec 32 := 0#32
  let c0_i32_23 : BitVec 32 := 0#32
  let c1_i32_25 : BitVec 32 := 1#32
  let arg14 : BitVec 32 := Scf.iv c0_i32_23 c1_i32_25 k0_t1
  let c1_i32_21 : BitVec 32 := 1#32
  let v58 : BitVec 32 := Scalar.muli arg14 c1_i32_21
  let v59 : BitVec 32 := Scalar.addi c0_i32_22 v58
  let v60 : BitVec 32 := Scalar.muli c2_i32_31 v59
  let c1_i32_32 : BitVec 32 := 1#32
  let v61 : BitVec 32 := Scalar.addi v60 c1_i32_32
  let c32_i32_58 : BitVec 32 := 32#32
  let v89 : BitVec 32 := Scalar.muli v61 c32_i32_58
  let v90 : BitVec 32 := Scalar.addi v1 v89
  let c128_i32_59 : BitVec 32 := 128#32
  let v91 : BitVec 32 := Scalar.muli v90 c128_i32_59
  ![v91.toNat]
@[reducible] def k0_t4_loop (i : grid0.Coords) : Scf.Loop 32 :=
  let c0_i32_23 : BitVec 32 := 0#32
  let c1536_i32 : BitVec 32 := 1536#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.subi c1536_i32 v1
  let c32_i32 : BitVec 32 := 32#32
  let v4 : BitVec 32 := Scalar.addi v3 c32_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c32_i32_0 : BitVec 32 := 32#32
  let c0_i32_2 : BitVec 32 := 0#32
  let v12 : BitVec 1 := Scalar.cmpi .sgt c32_i32_0 c0_i32_2
  let v13 : BitVec 32 := Scalar.extui v12
  let c0_i32_3 : BitVec 32 := 0#32
  let v14 : BitVec 1 := Scalar.cmpi .slt c32_i32_0 c0_i32_3
  let v15 : BitVec 32 := Scalar.extui v14
  let v16 : BitVec 32 := Scalar.subi v13 v15
  let v17 : BitVec 1 := Scalar.cmpi .ne v11 v16
  let v18 : BitVec 32 := Scalar.remsi v5 c32_i32_0
  let c0_i32_4 : BitVec 32 := 0#32
  let v19 : BitVec 1 := Scalar.cmpi .ne v18 c0_i32_4
  let v20 : BitVec 1 := Scalar.andi v17 v19
  let v6 : BitVec 32 := Scalar.divsi v5 c32_i32_0
  let c1_i32_5 : BitVec 32 := 1#32
  let v21 : BitVec 32 := Scalar.subi v6 c1_i32_5
  let v22 : BitVec 32 := Scalar.select v20 v21 v6
  let c1_i32_9 : BitVec 32 := 1#32
  let v27 : BitVec 32 := Scalar.addi v22 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32_10 : BitVec 32 := 2#32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v27 c2_i32_10
  let c0_i32_15 : BitVec 32 := 0#32
  let v41 : BitVec 1 := Scalar.cmpi .ne v40 c0_i32_15
  let v42 : BitVec 1 := Scalar.andi v39 v41
  let v28 : BitVec 32 := Scalar.divsi v27 c2_i32_10
  let c1_i32_16 : BitVec 32 := 1#32
  let v43 : BitVec 32 := Scalar.subi v28 c1_i32_16
  let v44 : BitVec 32 := Scalar.select v42 v43 v28
  let c0_i32_17 : BitVec 32 := 0#32
  let v45 : BitVec 32 := Scalar.subi v44 c0_i32_17
  let c1_i32_18 : BitVec 32 := 1#32
  let c1_i32_19 : BitVec 32 := 1#32
  let v46 : BitVec 32 := Scalar.subi c1_i32_18 c1_i32_19
  let v47 : BitVec 32 := Scalar.addi v45 v46
  let c1_i32_20 : BitVec 32 := 1#32
  let v48 : BitVec 32 := Scalar.divsi v47 c1_i32_20
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let v50 : BitVec 32 := Scalar.addi c0_i32_23 v49
  let c1_i32_26 : BitVec 32 := 1#32
  ⟨v53, v50, c1_i32_26⟩
def k0_cond6 (i : grid0.Coords) (k0_t4 : Fin (k0_t4_loop i).trips) : BitVec 1 :=
  let c2_i32_31 : BitVec 32 := 2#32
  let c0_i32_22 : BitVec 32 := 0#32
  let c0_i32_23 : BitVec 32 := 0#32
  let c1536_i32 : BitVec 32 := 1536#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.subi c1536_i32 v1
  let c32_i32 : BitVec 32 := 32#32
  let v4 : BitVec 32 := Scalar.addi v3 c32_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c32_i32_0 : BitVec 32 := 32#32
  let c0_i32_2 : BitVec 32 := 0#32
  let v12 : BitVec 1 := Scalar.cmpi .sgt c32_i32_0 c0_i32_2
  let v13 : BitVec 32 := Scalar.extui v12
  let c0_i32_3 : BitVec 32 := 0#32
  let v14 : BitVec 1 := Scalar.cmpi .slt c32_i32_0 c0_i32_3
  let v15 : BitVec 32 := Scalar.extui v14
  let v16 : BitVec 32 := Scalar.subi v13 v15
  let v17 : BitVec 1 := Scalar.cmpi .ne v11 v16
  let v18 : BitVec 32 := Scalar.remsi v5 c32_i32_0
  let c0_i32_4 : BitVec 32 := 0#32
  let v19 : BitVec 1 := Scalar.cmpi .ne v18 c0_i32_4
  let v20 : BitVec 1 := Scalar.andi v17 v19
  let v6 : BitVec 32 := Scalar.divsi v5 c32_i32_0
  let c1_i32_5 : BitVec 32 := 1#32
  let v21 : BitVec 32 := Scalar.subi v6 c1_i32_5
  let v22 : BitVec 32 := Scalar.select v20 v21 v6
  let c1_i32_9 : BitVec 32 := 1#32
  let v27 : BitVec 32 := Scalar.addi v22 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32_10 : BitVec 32 := 2#32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v27 c2_i32_10
  let c0_i32_15 : BitVec 32 := 0#32
  let v41 : BitVec 1 := Scalar.cmpi .ne v40 c0_i32_15
  let v42 : BitVec 1 := Scalar.andi v39 v41
  let v28 : BitVec 32 := Scalar.divsi v27 c2_i32_10
  let c1_i32_16 : BitVec 32 := 1#32
  let v43 : BitVec 32 := Scalar.subi v28 c1_i32_16
  let v44 : BitVec 32 := Scalar.select v42 v43 v28
  let c0_i32_17 : BitVec 32 := 0#32
  let v45 : BitVec 32 := Scalar.subi v44 c0_i32_17
  let c1_i32_18 : BitVec 32 := 1#32
  let c1_i32_19 : BitVec 32 := 1#32
  let v46 : BitVec 32 := Scalar.subi c1_i32_18 c1_i32_19
  let v47 : BitVec 32 := Scalar.addi v45 v46
  let c1_i32_20 : BitVec 32 := 1#32
  let v48 : BitVec 32 := Scalar.divsi v47 c1_i32_20
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg14 : BitVec 32 := Scf.iv v53 c1_i32_26 k0_t4
  let c1_i32_21 : BitVec 32 := 1#32
  let v58 : BitVec 32 := Scalar.muli arg14 c1_i32_21
  let v59 : BitVec 32 := Scalar.addi c0_i32_22 v58
  let v60 : BitVec 32 := Scalar.muli c2_i32_31 v59
  let c1_i32_32 : BitVec 32 := 1#32
  let v61 : BitVec 32 := Scalar.addi v60 c1_i32_32
  let v62 : BitVec 1 := Scalar.cmpi .slt v61 v22
  let v63 : BitVec 32 := Scalar.extui v62
  let c0_i32_33 : BitVec 32 := 0#32
  let v64 : BitVec 1 := Scalar.cmpi .ne v63 c0_i32_33
  v64

def k0_off168 (i : grid0.Coords) (k0_t4 : Fin (k0_t4_loop i).trips) : Fin 2 → Nat :=
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_31 : BitVec 32 := 2#32
  let c0_i32_22 : BitVec 32 := 0#32
  let c0_i32_23 : BitVec 32 := 0#32
  let c1536_i32 : BitVec 32 := 1536#32
  let v3 : BitVec 32 := Scalar.subi c1536_i32 v1
  let c32_i32 : BitVec 32 := 32#32
  let v4 : BitVec 32 := Scalar.addi v3 c32_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c32_i32_0 : BitVec 32 := 32#32
  let c0_i32_2 : BitVec 32 := 0#32
  let v12 : BitVec 1 := Scalar.cmpi .sgt c32_i32_0 c0_i32_2
  let v13 : BitVec 32 := Scalar.extui v12
  let c0_i32_3 : BitVec 32 := 0#32
  let v14 : BitVec 1 := Scalar.cmpi .slt c32_i32_0 c0_i32_3
  let v15 : BitVec 32 := Scalar.extui v14
  let v16 : BitVec 32 := Scalar.subi v13 v15
  let v17 : BitVec 1 := Scalar.cmpi .ne v11 v16
  let v18 : BitVec 32 := Scalar.remsi v5 c32_i32_0
  let c0_i32_4 : BitVec 32 := 0#32
  let v19 : BitVec 1 := Scalar.cmpi .ne v18 c0_i32_4
  let v20 : BitVec 1 := Scalar.andi v17 v19
  let v6 : BitVec 32 := Scalar.divsi v5 c32_i32_0
  let c1_i32_5 : BitVec 32 := 1#32
  let v21 : BitVec 32 := Scalar.subi v6 c1_i32_5
  let v22 : BitVec 32 := Scalar.select v20 v21 v6
  let c1_i32_9 : BitVec 32 := 1#32
  let v27 : BitVec 32 := Scalar.addi v22 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32_10 : BitVec 32 := 2#32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v27 c2_i32_10
  let c0_i32_15 : BitVec 32 := 0#32
  let v41 : BitVec 1 := Scalar.cmpi .ne v40 c0_i32_15
  let v42 : BitVec 1 := Scalar.andi v39 v41
  let v28 : BitVec 32 := Scalar.divsi v27 c2_i32_10
  let c1_i32_16 : BitVec 32 := 1#32
  let v43 : BitVec 32 := Scalar.subi v28 c1_i32_16
  let v44 : BitVec 32 := Scalar.select v42 v43 v28
  let c0_i32_17 : BitVec 32 := 0#32
  let v45 : BitVec 32 := Scalar.subi v44 c0_i32_17
  let c1_i32_18 : BitVec 32 := 1#32
  let c1_i32_19 : BitVec 32 := 1#32
  let v46 : BitVec 32 := Scalar.subi c1_i32_18 c1_i32_19
  let v47 : BitVec 32 := Scalar.addi v45 v46
  let c1_i32_20 : BitVec 32 := 1#32
  let v48 : BitVec 32 := Scalar.divsi v47 c1_i32_20
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg14 : BitVec 32 := Scf.iv v53 c1_i32_26 k0_t4
  let c1_i32_21 : BitVec 32 := 1#32
  let v58 : BitVec 32 := Scalar.muli arg14 c1_i32_21
  let v59 : BitVec 32 := Scalar.addi c0_i32_22 v58
  let v60 : BitVec 32 := Scalar.muli c2_i32_31 v59
  let c1_i32_32 : BitVec 32 := 1#32
  let v61 : BitVec 32 := Scalar.addi v60 c1_i32_32
  let c32_i32_46 : BitVec 32 := 32#32
  let v79 : BitVec 32 := Scalar.muli v61 c32_i32_46
  let v80 : BitVec 32 := Scalar.addi v1 v79
  let c128_i32_47 : BitVec 32 := 128#32
  let v81 : BitVec 32 := Scalar.muli v80 c128_i32_47
  ![0, v81.toNat]
@[reducible] def k0_t5_loop : Scf.Loop 32 :=
  let c0_i32_40 : BitVec 32 := 0#32
  let c8_i32 : BitVec 32 := 8#32
  let v70 : BitVec 32 := Scalar.addi c0_i32_40 c8_i32
  let c1_i32_41 : BitVec 32 := 1#32
  ⟨c0_i32_40, v70, c1_i32_41⟩
def k0_off169 (k0_t5 : Fin k0_t5_loop.trips) : Fin 2 → Nat :=
  let c0_i32_48 : BitVec 32 := 0#32
  let v82 : Index := Scalar.indexCast c0_i32_48
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v83 : Index := Scalar.indexCast v81
  ![0, v83.toNat]
def k0_off170 (k0_t5 : Fin k0_t5_loop.trips) : Fin 2 → Nat :=
  let c1_i32_50 : BitVec 32 := 1#32
  let v86 : Index := Scalar.indexCast c1_i32_50
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v87 : Index := Scalar.indexCast v81
  ![1, v87.toNat]
def k0_off171 (k0_t5 : Fin k0_t5_loop.trips) : Fin 2 → Nat :=
  let c2_i32_52 : BitVec 32 := 2#32
  let v90 : Index := Scalar.indexCast c2_i32_52
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v91 : Index := Scalar.indexCast v81
  ![2, v91.toNat]
def k0_off172 (k0_t5 : Fin k0_t5_loop.trips) : Fin 2 → Nat :=
  let c3_i32 : BitVec 32 := 3#32
  let v94 : Index := Scalar.indexCast c3_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v95 : Index := Scalar.indexCast v81
  ![3, v95.toNat]
def k0_off173 (k0_t5 : Fin k0_t5_loop.trips) : Fin 2 → Nat :=
  let c4_i32 : BitVec 32 := 4#32
  let v98 : Index := Scalar.indexCast c4_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v99 : Index := Scalar.indexCast v81
  ![4, v99.toNat]
def k0_off174 (k0_t5 : Fin k0_t5_loop.trips) : Fin 2 → Nat :=
  let c5_i32 : BitVec 32 := 5#32
  let v105 : Index := Scalar.indexCast c5_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v106 : Index := Scalar.indexCast v81
  ![5, v106.toNat]
def k0_off175 (k0_t5 : Fin k0_t5_loop.trips) : Fin 2 → Nat :=
  let c6_i32 : BitVec 32 := 6#32
  let v112 : Index := Scalar.indexCast c6_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v113 : Index := Scalar.indexCast v81
  ![6, v113.toNat]
def k0_off176 (k0_t5 : Fin k0_t5_loop.trips) : Fin 2 → Nat :=
  let c7_i32 : BitVec 32 := 7#32
  let v119 : Index := Scalar.indexCast c7_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v120 : Index := Scalar.indexCast v81
  ![7, v120.toNat]
def k0_off177 (k0_t5 : Fin k0_t5_loop.trips) : Fin 2 → Nat :=
  let c8_i32_59 : BitVec 32 := 8#32
  let v126 : Index := Scalar.indexCast c8_i32_59
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v127 : Index := Scalar.indexCast v81
  ![8, v127.toNat]
def k0_off178 (k0_t5 : Fin k0_t5_loop.trips) : Fin 2 → Nat :=
  let c9_i32 : BitVec 32 := 9#32
  let v133 : Index := Scalar.indexCast c9_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v134 : Index := Scalar.indexCast v81
  ![9, v134.toNat]
def k0_off179 (k0_t5 : Fin k0_t5_loop.trips) : Fin 2 → Nat :=
  let c10_i32 : BitVec 32 := 10#32
  let v140 : Index := Scalar.indexCast c10_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v141 : Index := Scalar.indexCast v81
  ![10, v141.toNat]
def k0_off180 (k0_t5 : Fin k0_t5_loop.trips) : Fin 2 → Nat :=
  let c11_i32 : BitVec 32 := 11#32
  let v147 : Index := Scalar.indexCast c11_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v148 : Index := Scalar.indexCast v81
  ![11, v148.toNat]
def k0_off181 (k0_t5 : Fin k0_t5_loop.trips) : Fin 2 → Nat :=
  let c12_i32 : BitVec 32 := 12#32
  let v154 : Index := Scalar.indexCast c12_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v155 : Index := Scalar.indexCast v81
  ![12, v155.toNat]
def k0_off182 (k0_t5 : Fin k0_t5_loop.trips) : Fin 2 → Nat :=
  let c13_i32 : BitVec 32 := 13#32
  let v161 : Index := Scalar.indexCast c13_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v162 : Index := Scalar.indexCast v81
  ![13, v162.toNat]
def k0_off183 (k0_t5 : Fin k0_t5_loop.trips) : Fin 2 → Nat :=
  let c14_i32 : BitVec 32 := 14#32
  let v168 : Index := Scalar.indexCast c14_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v169 : Index := Scalar.indexCast v81
  ![14, v169.toNat]
def k0_off184 (k0_t5 : Fin k0_t5_loop.trips) : Fin 2 → Nat :=
  let c15_i32 : BitVec 32 := 15#32
  let v175 : Index := Scalar.indexCast c15_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v176 : Index := Scalar.indexCast v81
  ![15, v176.toNat]
def k0_off185 (k0_t5 : Fin k0_t5_loop.trips) : Fin 2 → Nat :=
  let c16_i32_68 : BitVec 32 := 16#32
  let v182 : Index := Scalar.indexCast c16_i32_68
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v183 : Index := Scalar.indexCast v81
  ![16, v183.toNat]
def k0_off186 (k0_t5 : Fin k0_t5_loop.trips) : Fin 2 → Nat :=
  let c17_i32 : BitVec 32 := 17#32
  let v189 : Index := Scalar.indexCast c17_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v190 : Index := Scalar.indexCast v81
  ![17, v190.toNat]
def k0_off187 (k0_t5 : Fin k0_t5_loop.trips) : Fin 2 → Nat :=
  let c18_i32 : BitVec 32 := 18#32
  let v196 : Index := Scalar.indexCast c18_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v197 : Index := Scalar.indexCast v81
  ![18, v197.toNat]
def k0_off188 (k0_t5 : Fin k0_t5_loop.trips) : Fin 2 → Nat :=
  let c19_i32 : BitVec 32 := 19#32
  let v203 : Index := Scalar.indexCast c19_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v204 : Index := Scalar.indexCast v81
  ![19, v204.toNat]
def k0_off189 (k0_t5 : Fin k0_t5_loop.trips) : Fin 2 → Nat :=
  let c20_i32 : BitVec 32 := 20#32
  let v210 : Index := Scalar.indexCast c20_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v211 : Index := Scalar.indexCast v81
  ![20, v211.toNat]
def k0_off190 (k0_t5 : Fin k0_t5_loop.trips) : Fin 2 → Nat :=
  let c21_i32 : BitVec 32 := 21#32
  let v217 : Index := Scalar.indexCast c21_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v218 : Index := Scalar.indexCast v81
  ![21, v218.toNat]
def k0_off191 (k0_t5 : Fin k0_t5_loop.trips) : Fin 2 → Nat :=
  let c22_i32 : BitVec 32 := 22#32
  let v224 : Index := Scalar.indexCast c22_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v225 : Index := Scalar.indexCast v81
  ![22, v225.toNat]
def k0_off192 (k0_t5 : Fin k0_t5_loop.trips) : Fin 2 → Nat :=
  let c23_i32 : BitVec 32 := 23#32
  let v231 : Index := Scalar.indexCast c23_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v232 : Index := Scalar.indexCast v81
  ![23, v232.toNat]
def k0_off193 (k0_t5 : Fin k0_t5_loop.trips) : Fin 2 → Nat :=
  let c24_i32 : BitVec 32 := 24#32
  let v238 : Index := Scalar.indexCast c24_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v239 : Index := Scalar.indexCast v81
  ![24, v239.toNat]
def k0_off194 (k0_t5 : Fin k0_t5_loop.trips) : Fin 2 → Nat :=
  let c25_i32 : BitVec 32 := 25#32
  let v245 : Index := Scalar.indexCast c25_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v246 : Index := Scalar.indexCast v81
  ![25, v246.toNat]
def k0_off195 (k0_t5 : Fin k0_t5_loop.trips) : Fin 2 → Nat :=
  let c26_i32 : BitVec 32 := 26#32
  let v252 : Index := Scalar.indexCast c26_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v253 : Index := Scalar.indexCast v81
  ![26, v253.toNat]
def k0_off196 (k0_t5 : Fin k0_t5_loop.trips) : Fin 2 → Nat :=
  let c27_i32 : BitVec 32 := 27#32
  let v259 : Index := Scalar.indexCast c27_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v260 : Index := Scalar.indexCast v81
  ![27, v260.toNat]
def k0_off197 (k0_t5 : Fin k0_t5_loop.trips) : Fin 2 → Nat :=
  let c28_i32 : BitVec 32 := 28#32
  let v266 : Index := Scalar.indexCast c28_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v267 : Index := Scalar.indexCast v81
  ![28, v267.toNat]
def k0_off198 (k0_t5 : Fin k0_t5_loop.trips) : Fin 2 → Nat :=
  let c29_i32 : BitVec 32 := 29#32
  let v273 : Index := Scalar.indexCast c29_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v274 : Index := Scalar.indexCast v81
  ![29, v274.toNat]
def k0_off199 (k0_t5 : Fin k0_t5_loop.trips) : Fin 2 → Nat :=
  let c30_i32 : BitVec 32 := 30#32
  let v280 : Index := Scalar.indexCast c30_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v281 : Index := Scalar.indexCast v81
  ![30, v281.toNat]
def k0_off200 (k0_t5 : Fin k0_t5_loop.trips) : Fin 2 → Nat :=
  let c31_i32 : BitVec 32 := 31#32
  let v287 : Index := Scalar.indexCast c31_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v288 : Index := Scalar.indexCast v81
  ![31, v288.toNat]
def k0_off201 (k0_t5 : Fin k0_t5_loop.trips) : Fin 2 → Nat :=
  let c32_i32_85 : BitVec 32 := 32#32
  let v294 : Index := Scalar.indexCast c32_i32_85
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v295 : Index := Scalar.indexCast v81
  ![32, v295.toNat]
def k0_off202 (k0_t5 : Fin k0_t5_loop.trips) : Fin 2 → Nat :=
  let c33_i32 : BitVec 32 := 33#32
  let v301 : Index := Scalar.indexCast c33_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v302 : Index := Scalar.indexCast v81
  ![33, v302.toNat]
def k0_off203 (k0_t5 : Fin k0_t5_loop.trips) : Fin 2 → Nat :=
  let c34_i32 : BitVec 32 := 34#32
  let v308 : Index := Scalar.indexCast c34_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v309 : Index := Scalar.indexCast v81
  ![34, v309.toNat]
def k0_off204 (k0_t5 : Fin k0_t5_loop.trips) : Fin 2 → Nat :=
  let c35_i32 : BitVec 32 := 35#32
  let v315 : Index := Scalar.indexCast c35_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v316 : Index := Scalar.indexCast v81
  ![35, v316.toNat]
def k0_off205 (k0_t5 : Fin k0_t5_loop.trips) : Fin 2 → Nat :=
  let c36_i32 : BitVec 32 := 36#32
  let v322 : Index := Scalar.indexCast c36_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v323 : Index := Scalar.indexCast v81
  ![36, v323.toNat]
def k0_off206 (k0_t5 : Fin k0_t5_loop.trips) : Fin 2 → Nat :=
  let c37_i32 : BitVec 32 := 37#32
  let v329 : Index := Scalar.indexCast c37_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v330 : Index := Scalar.indexCast v81
  ![37, v330.toNat]
def k0_off207 (k0_t5 : Fin k0_t5_loop.trips) : Fin 2 → Nat :=
  let c38_i32 : BitVec 32 := 38#32
  let v336 : Index := Scalar.indexCast c38_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v337 : Index := Scalar.indexCast v81
  ![38, v337.toNat]
def k0_off208 (k0_t5 : Fin k0_t5_loop.trips) : Fin 2 → Nat :=
  let c39_i32 : BitVec 32 := 39#32
  let v343 : Index := Scalar.indexCast c39_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v344 : Index := Scalar.indexCast v81
  ![39, v344.toNat]
def k0_off209 (k0_t5 : Fin k0_t5_loop.trips) : Fin 2 → Nat :=
  let c40_i32 : BitVec 32 := 40#32
  let v350 : Index := Scalar.indexCast c40_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v351 : Index := Scalar.indexCast v81
  ![40, v351.toNat]
def k0_off210 (k0_t5 : Fin k0_t5_loop.trips) : Fin 2 → Nat :=
  let c41_i32 : BitVec 32 := 41#32
  let v357 : Index := Scalar.indexCast c41_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v358 : Index := Scalar.indexCast v81
  ![41, v358.toNat]
def k0_off211 (k0_t5 : Fin k0_t5_loop.trips) : Fin 2 → Nat :=
  let c42_i32 : BitVec 32 := 42#32
  let v364 : Index := Scalar.indexCast c42_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v365 : Index := Scalar.indexCast v81
  ![42, v365.toNat]
def k0_off212 (k0_t5 : Fin k0_t5_loop.trips) : Fin 2 → Nat :=
  let c43_i32 : BitVec 32 := 43#32
  let v371 : Index := Scalar.indexCast c43_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v372 : Index := Scalar.indexCast v81
  ![43, v372.toNat]
def k0_off213 (k0_t5 : Fin k0_t5_loop.trips) : Fin 2 → Nat :=
  let c44_i32 : BitVec 32 := 44#32
  let v378 : Index := Scalar.indexCast c44_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v379 : Index := Scalar.indexCast v81
  ![44, v379.toNat]
def k0_off214 (k0_t5 : Fin k0_t5_loop.trips) : Fin 2 → Nat :=
  let c45_i32 : BitVec 32 := 45#32
  let v385 : Index := Scalar.indexCast c45_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v386 : Index := Scalar.indexCast v81
  ![45, v386.toNat]
def k0_off215 (k0_t5 : Fin k0_t5_loop.trips) : Fin 2 → Nat :=
  let c46_i32 : BitVec 32 := 46#32
  let v392 : Index := Scalar.indexCast c46_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v393 : Index := Scalar.indexCast v81
  ![46, v393.toNat]
def k0_off216 (k0_t5 : Fin k0_t5_loop.trips) : Fin 2 → Nat :=
  let c47_i32 : BitVec 32 := 47#32
  let v399 : Index := Scalar.indexCast c47_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v400 : Index := Scalar.indexCast v81
  ![47, v400.toNat]
def k0_off217 (k0_t5 : Fin k0_t5_loop.trips) : Fin 2 → Nat :=
  let c48_i32 : BitVec 32 := 48#32
  let v406 : Index := Scalar.indexCast c48_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v407 : Index := Scalar.indexCast v81
  ![48, v407.toNat]
def k0_off218 (k0_t5 : Fin k0_t5_loop.trips) : Fin 2 → Nat :=
  let c49_i32 : BitVec 32 := 49#32
  let v413 : Index := Scalar.indexCast c49_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v414 : Index := Scalar.indexCast v81
  ![49, v414.toNat]
def k0_off219 (k0_t5 : Fin k0_t5_loop.trips) : Fin 2 → Nat :=
  let c50_i32 : BitVec 32 := 50#32
  let v420 : Index := Scalar.indexCast c50_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v421 : Index := Scalar.indexCast v81
  ![50, v421.toNat]
def k0_off220 (k0_t5 : Fin k0_t5_loop.trips) : Fin 2 → Nat :=
  let c51_i32 : BitVec 32 := 51#32
  let v427 : Index := Scalar.indexCast c51_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v428 : Index := Scalar.indexCast v81
  ![51, v428.toNat]
def k0_off221 (k0_t5 : Fin k0_t5_loop.trips) : Fin 2 → Nat :=
  let c52_i32 : BitVec 32 := 52#32
  let v434 : Index := Scalar.indexCast c52_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v435 : Index := Scalar.indexCast v81
  ![52, v435.toNat]
def k0_off222 (k0_t5 : Fin k0_t5_loop.trips) : Fin 2 → Nat :=
  let c53_i32 : BitVec 32 := 53#32
  let v441 : Index := Scalar.indexCast c53_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v442 : Index := Scalar.indexCast v81
  ![53, v442.toNat]
def k0_off223 (k0_t5 : Fin k0_t5_loop.trips) : Fin 2 → Nat :=
  let c54_i32 : BitVec 32 := 54#32
  let v448 : Index := Scalar.indexCast c54_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v449 : Index := Scalar.indexCast v81
  ![54, v449.toNat]
def k0_off224 (k0_t5 : Fin k0_t5_loop.trips) : Fin 2 → Nat :=
  let c55_i32 : BitVec 32 := 55#32
  let v455 : Index := Scalar.indexCast c55_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v456 : Index := Scalar.indexCast v81
  ![55, v456.toNat]
def k0_off225 (k0_t5 : Fin k0_t5_loop.trips) : Fin 2 → Nat :=
  let c56_i32 : BitVec 32 := 56#32
  let v462 : Index := Scalar.indexCast c56_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v463 : Index := Scalar.indexCast v81
  ![56, v463.toNat]
def k0_off226 (k0_t5 : Fin k0_t5_loop.trips) : Fin 2 → Nat :=
  let c57_i32 : BitVec 32 := 57#32
  let v469 : Index := Scalar.indexCast c57_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v470 : Index := Scalar.indexCast v81
  ![57, v470.toNat]
def k0_off227 (k0_t5 : Fin k0_t5_loop.trips) : Fin 2 → Nat :=
  let c58_i32 : BitVec 32 := 58#32
  let v476 : Index := Scalar.indexCast c58_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v477 : Index := Scalar.indexCast v81
  ![58, v477.toNat]
def k0_off228 (k0_t5 : Fin k0_t5_loop.trips) : Fin 2 → Nat :=
  let c59_i32 : BitVec 32 := 59#32
  let v483 : Index := Scalar.indexCast c59_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v484 : Index := Scalar.indexCast v81
  ![59, v484.toNat]
def k0_off229 (k0_t5 : Fin k0_t5_loop.trips) : Fin 2 → Nat :=
  let c60_i32 : BitVec 32 := 60#32
  let v490 : Index := Scalar.indexCast c60_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v491 : Index := Scalar.indexCast v81
  ![60, v491.toNat]
def k0_off230 (k0_t5 : Fin k0_t5_loop.trips) : Fin 2 → Nat :=
  let c61_i32 : BitVec 32 := 61#32
  let v497 : Index := Scalar.indexCast c61_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v498 : Index := Scalar.indexCast v81
  ![61, v498.toNat]
def k0_off231 (k0_t5 : Fin k0_t5_loop.trips) : Fin 2 → Nat :=
  let c62_i32 : BitVec 32 := 62#32
  let v504 : Index := Scalar.indexCast c62_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v505 : Index := Scalar.indexCast v81
  ![62, v505.toNat]
def k0_off232 (k0_t5 : Fin k0_t5_loop.trips) : Fin 2 → Nat :=
  let c63_i32 : BitVec 32 := 63#32
  let v511 : Index := Scalar.indexCast c63_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v512 : Index := Scalar.indexCast v81
  ![63, v512.toNat]
def k0_off233 (k0_t5 : Fin k0_t5_loop.trips) : Fin 2 → Nat :=
  let c64_i32 : BitVec 32 := 64#32
  let v518 : Index := Scalar.indexCast c64_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v519 : Index := Scalar.indexCast v81
  ![64, v519.toNat]
def k0_off234 (k0_t5 : Fin k0_t5_loop.trips) : Fin 2 → Nat :=
  let c65_i32 : BitVec 32 := 65#32
  let v525 : Index := Scalar.indexCast c65_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v526 : Index := Scalar.indexCast v81
  ![65, v526.toNat]
def k0_off235 (k0_t5 : Fin k0_t5_loop.trips) : Fin 2 → Nat :=
  let c66_i32 : BitVec 32 := 66#32
  let v532 : Index := Scalar.indexCast c66_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v533 : Index := Scalar.indexCast v81
  ![66, v533.toNat]
def k0_off236 (k0_t5 : Fin k0_t5_loop.trips) : Fin 2 → Nat :=
  let c67_i32 : BitVec 32 := 67#32
  let v539 : Index := Scalar.indexCast c67_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v540 : Index := Scalar.indexCast v81
  ![67, v540.toNat]
def k0_off237 (k0_t5 : Fin k0_t5_loop.trips) : Fin 2 → Nat :=
  let c68_i32 : BitVec 32 := 68#32
  let v546 : Index := Scalar.indexCast c68_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v547 : Index := Scalar.indexCast v81
  ![68, v547.toNat]
def k0_off238 (k0_t5 : Fin k0_t5_loop.trips) : Fin 2 → Nat :=
  let c69_i32 : BitVec 32 := 69#32
  let v553 : Index := Scalar.indexCast c69_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v554 : Index := Scalar.indexCast v81
  ![69, v554.toNat]
def k0_off239 (k0_t5 : Fin k0_t5_loop.trips) : Fin 2 → Nat :=
  let c70_i32 : BitVec 32 := 70#32
  let v560 : Index := Scalar.indexCast c70_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v561 : Index := Scalar.indexCast v81
  ![70, v561.toNat]
def k0_off240 (k0_t5 : Fin k0_t5_loop.trips) : Fin 2 → Nat :=
  let c71_i32 : BitVec 32 := 71#32
  let v567 : Index := Scalar.indexCast c71_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v568 : Index := Scalar.indexCast v81
  ![71, v568.toNat]
def k0_off241 (k0_t5 : Fin k0_t5_loop.trips) : Fin 2 → Nat :=
  let c72_i32 : BitVec 32 := 72#32
  let v574 : Index := Scalar.indexCast c72_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v575 : Index := Scalar.indexCast v81
  ![72, v575.toNat]
def k0_off242 (k0_t5 : Fin k0_t5_loop.trips) : Fin 2 → Nat :=
  let c73_i32 : BitVec 32 := 73#32
  let v581 : Index := Scalar.indexCast c73_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v582 : Index := Scalar.indexCast v81
  ![73, v582.toNat]
def k0_off243 (k0_t5 : Fin k0_t5_loop.trips) : Fin 2 → Nat :=
  let c74_i32 : BitVec 32 := 74#32
  let v588 : Index := Scalar.indexCast c74_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v589 : Index := Scalar.indexCast v81
  ![74, v589.toNat]
def k0_off244 (k0_t5 : Fin k0_t5_loop.trips) : Fin 2 → Nat :=
  let c75_i32 : BitVec 32 := 75#32
  let v595 : Index := Scalar.indexCast c75_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v596 : Index := Scalar.indexCast v81
  ![75, v596.toNat]
def k0_off245 (k0_t5 : Fin k0_t5_loop.trips) : Fin 2 → Nat :=
  let c76_i32 : BitVec 32 := 76#32
  let v602 : Index := Scalar.indexCast c76_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v603 : Index := Scalar.indexCast v81
  ![76, v603.toNat]
def k0_off246 (k0_t5 : Fin k0_t5_loop.trips) : Fin 2 → Nat :=
  let c77_i32 : BitVec 32 := 77#32
  let v609 : Index := Scalar.indexCast c77_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v610 : Index := Scalar.indexCast v81
  ![77, v610.toNat]
def k0_off247 (k0_t5 : Fin k0_t5_loop.trips) : Fin 2 → Nat :=
  let c78_i32 : BitVec 32 := 78#32
  let v616 : Index := Scalar.indexCast c78_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v617 : Index := Scalar.indexCast v81
  ![78, v617.toNat]
def k0_off248 (k0_t5 : Fin k0_t5_loop.trips) : Fin 2 → Nat :=
  let c79_i32 : BitVec 32 := 79#32
  let v623 : Index := Scalar.indexCast c79_i32
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v624 : Index := Scalar.indexCast v81
  ![79, v624.toNat]
def k0_off249 (k0_t5 : Fin k0_t5_loop.trips) : Fin 1 → Nat :=
  let c0_i32_47 : BitVec 32 := 0#32
  let c0_i32_40 : BitVec 32 := 0#32
  let c1_i32_41 : BitVec 32 := 1#32
  let arg15 : BitVec 32 := Scf.iv c0_i32_40 c1_i32_41 k0_t5
  let c1_i32_46 : BitVec 32 := 1#32
  let v79 : BitVec 32 := Scalar.muli arg15 c1_i32_46
  let v80 : BitVec 32 := Scalar.addi c0_i32_47 v79
  let c16_i32 : BitVec 32 := 16#32
  let v81 : BitVec 32 := Scalar.muli v80 c16_i32
  let v654 : Index := Scalar.indexCast v81
  ![v654.toNat]
def k0_off250 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_31 : BitVec 32 := 2#32
  let c0_i32_22 : BitVec 32 := 0#32
  let c0_i32_23 : BitVec 32 := 0#32
  let c1536_i32 : BitVec 32 := 1536#32
  let v3 : BitVec 32 := Scalar.subi c1536_i32 v1
  let c32_i32 : BitVec 32 := 32#32
  let v4 : BitVec 32 := Scalar.addi v3 c32_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c32_i32_0 : BitVec 32 := 32#32
  let c0_i32_2 : BitVec 32 := 0#32
  let v12 : BitVec 1 := Scalar.cmpi .sgt c32_i32_0 c0_i32_2
  let v13 : BitVec 32 := Scalar.extui v12
  let c0_i32_3 : BitVec 32 := 0#32
  let v14 : BitVec 1 := Scalar.cmpi .slt c32_i32_0 c0_i32_3
  let v15 : BitVec 32 := Scalar.extui v14
  let v16 : BitVec 32 := Scalar.subi v13 v15
  let v17 : BitVec 1 := Scalar.cmpi .ne v11 v16
  let v18 : BitVec 32 := Scalar.remsi v5 c32_i32_0
  let c0_i32_4 : BitVec 32 := 0#32
  let v19 : BitVec 1 := Scalar.cmpi .ne v18 c0_i32_4
  let v20 : BitVec 1 := Scalar.andi v17 v19
  let v6 : BitVec 32 := Scalar.divsi v5 c32_i32_0
  let c1_i32_5 : BitVec 32 := 1#32
  let v21 : BitVec 32 := Scalar.subi v6 c1_i32_5
  let v22 : BitVec 32 := Scalar.select v20 v21 v6
  let c1_i32_9 : BitVec 32 := 1#32
  let v27 : BitVec 32 := Scalar.addi v22 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32_10 : BitVec 32 := 2#32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v27 c2_i32_10
  let c0_i32_15 : BitVec 32 := 0#32
  let v41 : BitVec 1 := Scalar.cmpi .ne v40 c0_i32_15
  let v42 : BitVec 1 := Scalar.andi v39 v41
  let v28 : BitVec 32 := Scalar.divsi v27 c2_i32_10
  let c1_i32_16 : BitVec 32 := 1#32
  let v43 : BitVec 32 := Scalar.subi v28 c1_i32_16
  let v44 : BitVec 32 := Scalar.select v42 v43 v28
  let c0_i32_17 : BitVec 32 := 0#32
  let v45 : BitVec 32 := Scalar.subi v44 c0_i32_17
  let c1_i32_18 : BitVec 32 := 1#32
  let c1_i32_19 : BitVec 32 := 1#32
  let v46 : BitVec 32 := Scalar.subi c1_i32_18 c1_i32_19
  let v47 : BitVec 32 := Scalar.addi v45 v46
  let c1_i32_20 : BitVec 32 := 1#32
  let v48 : BitVec 32 := Scalar.divsi v47 c1_i32_20
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg14 : BitVec 32 := Scf.iv v53 c1_i32_26 k0_t4
  let c1_i32_21 : BitVec 32 := 1#32
  let v58 : BitVec 32 := Scalar.muli arg14 c1_i32_21
  let v59 : BitVec 32 := Scalar.addi c0_i32_22 v58
  let v60 : BitVec 32 := Scalar.muli c2_i32_31 v59
  let c32_i32_43 : BitVec 32 := 32#32
  let v71 : BitVec 32 := Scalar.muli v60 c32_i32_43
  let v72 : BitVec 32 := Scalar.addi v1 v71
  let c128_i32_44 : BitVec 32 := 128#32
  let v73 : BitVec 32 := Scalar.muli v72 c128_i32_44
  ![v73.toNat]
def k0_cond8 (i : grid0.Coords) (k0_t4 : Fin (k0_t4_loop i).trips) : BitVec 1 :=
  let c2_i32_31 : BitVec 32 := 2#32
  let c0_i32_22 : BitVec 32 := 0#32
  let c0_i32_23 : BitVec 32 := 0#32
  let c1536_i32 : BitVec 32 := 1536#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.subi c1536_i32 v1
  let c32_i32 : BitVec 32 := 32#32
  let v4 : BitVec 32 := Scalar.addi v3 c32_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c32_i32_0 : BitVec 32 := 32#32
  let c0_i32_2 : BitVec 32 := 0#32
  let v12 : BitVec 1 := Scalar.cmpi .sgt c32_i32_0 c0_i32_2
  let v13 : BitVec 32 := Scalar.extui v12
  let c0_i32_3 : BitVec 32 := 0#32
  let v14 : BitVec 1 := Scalar.cmpi .slt c32_i32_0 c0_i32_3
  let v15 : BitVec 32 := Scalar.extui v14
  let v16 : BitVec 32 := Scalar.subi v13 v15
  let v17 : BitVec 1 := Scalar.cmpi .ne v11 v16
  let v18 : BitVec 32 := Scalar.remsi v5 c32_i32_0
  let c0_i32_4 : BitVec 32 := 0#32
  let v19 : BitVec 1 := Scalar.cmpi .ne v18 c0_i32_4
  let v20 : BitVec 1 := Scalar.andi v17 v19
  let v6 : BitVec 32 := Scalar.divsi v5 c32_i32_0
  let c1_i32_5 : BitVec 32 := 1#32
  let v21 : BitVec 32 := Scalar.subi v6 c1_i32_5
  let v22 : BitVec 32 := Scalar.select v20 v21 v6
  let c1_i32_9 : BitVec 32 := 1#32
  let v27 : BitVec 32 := Scalar.addi v22 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32_10 : BitVec 32 := 2#32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v27 c2_i32_10
  let c0_i32_15 : BitVec 32 := 0#32
  let v41 : BitVec 1 := Scalar.cmpi .ne v40 c0_i32_15
  let v42 : BitVec 1 := Scalar.andi v39 v41
  let v28 : BitVec 32 := Scalar.divsi v27 c2_i32_10
  let c1_i32_16 : BitVec 32 := 1#32
  let v43 : BitVec 32 := Scalar.subi v28 c1_i32_16
  let v44 : BitVec 32 := Scalar.select v42 v43 v28
  let c0_i32_17 : BitVec 32 := 0#32
  let v45 : BitVec 32 := Scalar.subi v44 c0_i32_17
  let c1_i32_18 : BitVec 32 := 1#32
  let c1_i32_19 : BitVec 32 := 1#32
  let v46 : BitVec 32 := Scalar.subi c1_i32_18 c1_i32_19
  let v47 : BitVec 32 := Scalar.addi v45 v46
  let c1_i32_20 : BitVec 32 := 1#32
  let v48 : BitVec 32 := Scalar.divsi v47 c1_i32_20
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg14 : BitVec 32 := Scf.iv v53 c1_i32_26 k0_t4
  let c1_i32_21 : BitVec 32 := 1#32
  let v58 : BitVec 32 := Scalar.muli arg14 c1_i32_21
  let v59 : BitVec 32 := Scalar.addi c0_i32_22 v58
  let v60 : BitVec 32 := Scalar.muli c2_i32_31 v59
  let c1_i32_32 : BitVec 32 := 1#32
  let v61 : BitVec 32 := Scalar.addi v60 c1_i32_32
  let v76 : BitVec 1 := Scalar.cmpi .slt v61 v22
  let v77 : BitVec 32 := Scalar.extui v76
  let c0_i32_45 : BitVec 32 := 0#32
  let v78 : BitVec 1 := Scalar.cmpi .ne v77 c0_i32_45
  v78

def k0_cond9 (i : grid0.Coords) (k0_t4 : Fin (k0_t4_loop i).trips) : BitVec 1 :=
  let c2_i32_31 : BitVec 32 := 2#32
  let c0_i32_22 : BitVec 32 := 0#32
  let c0_i32_23 : BitVec 32 := 0#32
  let c1536_i32 : BitVec 32 := 1536#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.subi c1536_i32 v1
  let c32_i32 : BitVec 32 := 32#32
  let v4 : BitVec 32 := Scalar.addi v3 c32_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c32_i32_0 : BitVec 32 := 32#32
  let c0_i32_2 : BitVec 32 := 0#32
  let v12 : BitVec 1 := Scalar.cmpi .sgt c32_i32_0 c0_i32_2
  let v13 : BitVec 32 := Scalar.extui v12
  let c0_i32_3 : BitVec 32 := 0#32
  let v14 : BitVec 1 := Scalar.cmpi .slt c32_i32_0 c0_i32_3
  let v15 : BitVec 32 := Scalar.extui v14
  let v16 : BitVec 32 := Scalar.subi v13 v15
  let v17 : BitVec 1 := Scalar.cmpi .ne v11 v16
  let v18 : BitVec 32 := Scalar.remsi v5 c32_i32_0
  let c0_i32_4 : BitVec 32 := 0#32
  let v19 : BitVec 1 := Scalar.cmpi .ne v18 c0_i32_4
  let v20 : BitVec 1 := Scalar.andi v17 v19
  let v6 : BitVec 32 := Scalar.divsi v5 c32_i32_0
  let c1_i32_5 : BitVec 32 := 1#32
  let v21 : BitVec 32 := Scalar.subi v6 c1_i32_5
  let v22 : BitVec 32 := Scalar.select v20 v21 v6
  let c1_i32_9 : BitVec 32 := 1#32
  let v27 : BitVec 32 := Scalar.addi v22 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32_10 : BitVec 32 := 2#32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v27 c2_i32_10
  let c0_i32_15 : BitVec 32 := 0#32
  let v41 : BitVec 1 := Scalar.cmpi .ne v40 c0_i32_15
  let v42 : BitVec 1 := Scalar.andi v39 v41
  let v28 : BitVec 32 := Scalar.divsi v27 c2_i32_10
  let c1_i32_16 : BitVec 32 := 1#32
  let v43 : BitVec 32 := Scalar.subi v28 c1_i32_16
  let v44 : BitVec 32 := Scalar.select v42 v43 v28
  let c0_i32_17 : BitVec 32 := 0#32
  let v45 : BitVec 32 := Scalar.subi v44 c0_i32_17
  let c1_i32_18 : BitVec 32 := 1#32
  let c1_i32_19 : BitVec 32 := 1#32
  let v46 : BitVec 32 := Scalar.subi c1_i32_18 c1_i32_19
  let v47 : BitVec 32 := Scalar.addi v45 v46
  let c1_i32_20 : BitVec 32 := 1#32
  let v48 : BitVec 32 := Scalar.divsi v47 c1_i32_20
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg14 : BitVec 32 := Scf.iv v53 c1_i32_26 k0_t4
  let c1_i32_21 : BitVec 32 := 1#32
  let v58 : BitVec 32 := Scalar.muli arg14 c1_i32_21
  let v59 : BitVec 32 := Scalar.addi c0_i32_22 v58
  let v60 : BitVec 32 := Scalar.muli c2_i32_31 v59
  let c2_i32_46 : BitVec 32 := 2#32
  let v79 : BitVec 32 := Scalar.addi v60 c2_i32_46
  let v80 : BitVec 1 := Scalar.cmpi .slt v79 v22
  let v81 : BitVec 32 := Scalar.extui v80
  let c0_i32_47 : BitVec 32 := 0#32
  let v82 : BitVec 1 := Scalar.cmpi .ne v81 c0_i32_47
  v82

def k0_off251 (i : grid0.Coords) (k0_t4 : Fin (k0_t4_loop i).trips) : Fin 2 → Nat :=
  let c0_i32_63 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_31 : BitVec 32 := 2#32
  let c0_i32_22 : BitVec 32 := 0#32
  let c0_i32_23 : BitVec 32 := 0#32
  let c1536_i32 : BitVec 32 := 1536#32
  let v3 : BitVec 32 := Scalar.subi c1536_i32 v1
  let c32_i32 : BitVec 32 := 32#32
  let v4 : BitVec 32 := Scalar.addi v3 c32_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c32_i32_0 : BitVec 32 := 32#32
  let c0_i32_2 : BitVec 32 := 0#32
  let v12 : BitVec 1 := Scalar.cmpi .sgt c32_i32_0 c0_i32_2
  let v13 : BitVec 32 := Scalar.extui v12
  let c0_i32_3 : BitVec 32 := 0#32
  let v14 : BitVec 1 := Scalar.cmpi .slt c32_i32_0 c0_i32_3
  let v15 : BitVec 32 := Scalar.extui v14
  let v16 : BitVec 32 := Scalar.subi v13 v15
  let v17 : BitVec 1 := Scalar.cmpi .ne v11 v16
  let v18 : BitVec 32 := Scalar.remsi v5 c32_i32_0
  let c0_i32_4 : BitVec 32 := 0#32
  let v19 : BitVec 1 := Scalar.cmpi .ne v18 c0_i32_4
  let v20 : BitVec 1 := Scalar.andi v17 v19
  let v6 : BitVec 32 := Scalar.divsi v5 c32_i32_0
  let c1_i32_5 : BitVec 32 := 1#32
  let v21 : BitVec 32 := Scalar.subi v6 c1_i32_5
  let v22 : BitVec 32 := Scalar.select v20 v21 v6
  let c1_i32_9 : BitVec 32 := 1#32
  let v27 : BitVec 32 := Scalar.addi v22 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32_10 : BitVec 32 := 2#32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v27 c2_i32_10
  let c0_i32_15 : BitVec 32 := 0#32
  let v41 : BitVec 1 := Scalar.cmpi .ne v40 c0_i32_15
  let v42 : BitVec 1 := Scalar.andi v39 v41
  let v28 : BitVec 32 := Scalar.divsi v27 c2_i32_10
  let c1_i32_16 : BitVec 32 := 1#32
  let v43 : BitVec 32 := Scalar.subi v28 c1_i32_16
  let v44 : BitVec 32 := Scalar.select v42 v43 v28
  let c0_i32_17 : BitVec 32 := 0#32
  let v45 : BitVec 32 := Scalar.subi v44 c0_i32_17
  let c1_i32_18 : BitVec 32 := 1#32
  let c1_i32_19 : BitVec 32 := 1#32
  let v46 : BitVec 32 := Scalar.subi c1_i32_18 c1_i32_19
  let v47 : BitVec 32 := Scalar.addi v45 v46
  let c1_i32_20 : BitVec 32 := 1#32
  let v48 : BitVec 32 := Scalar.divsi v47 c1_i32_20
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg14 : BitVec 32 := Scf.iv v53 c1_i32_26 k0_t4
  let c1_i32_21 : BitVec 32 := 1#32
  let v58 : BitVec 32 := Scalar.muli arg14 c1_i32_21
  let v59 : BitVec 32 := Scalar.addi c0_i32_22 v58
  let v60 : BitVec 32 := Scalar.muli c2_i32_31 v59
  let c2_i32_60 : BitVec 32 := 2#32
  let v94 : BitVec 32 := Scalar.addi v60 c2_i32_60
  let c32_i32_61 : BitVec 32 := 32#32
  let v95 : BitVec 32 := Scalar.muli v94 c32_i32_61
  let v96 : BitVec 32 := Scalar.addi v1 v95
  let c128_i32_62 : BitVec 32 := 128#32
  let v97 : BitVec 32 := Scalar.muli v96 c128_i32_62
  ![0, v97.toNat]
@[reducible] def k0_t6_loop : Scf.Loop 32 :=
  let c0_i32_54 : BitVec 32 := 0#32
  let c8_i32_55 : BitVec 32 := 8#32
  let v88 : BitVec 32 := Scalar.addi c0_i32_54 c8_i32_55
  let c1_i32_56 : BitVec 32 := 1#32
  ⟨c0_i32_54, v88, c1_i32_56⟩
def k0_off252 (k0_t6 : Fin k0_t6_loop.trips) : Fin 2 → Nat :=
  let c0_i32_62 : BitVec 32 := 0#32
  let v97 : Index := Scalar.indexCast c0_i32_62
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v98 : Index := Scalar.indexCast v96
  ![0, v98.toNat]
def k0_off253 (k0_t6 : Fin k0_t6_loop.trips) : Fin 2 → Nat :=
  let c1_i32_64 : BitVec 32 := 1#32
  let v101 : Index := Scalar.indexCast c1_i32_64
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v102 : Index := Scalar.indexCast v96
  ![1, v102.toNat]
def k0_off254 (k0_t6 : Fin k0_t6_loop.trips) : Fin 2 → Nat :=
  let c2_i32_66 : BitVec 32 := 2#32
  let v105 : Index := Scalar.indexCast c2_i32_66
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v106 : Index := Scalar.indexCast v96
  ![2, v106.toNat]
def k0_off255 (k0_t6 : Fin k0_t6_loop.trips) : Fin 2 → Nat :=
  let c3_i32 : BitVec 32 := 3#32
  let v109 : Index := Scalar.indexCast c3_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v110 : Index := Scalar.indexCast v96
  ![3, v110.toNat]
def k0_off256 (k0_t6 : Fin k0_t6_loop.trips) : Fin 2 → Nat :=
  let c4_i32 : BitVec 32 := 4#32
  let v113 : Index := Scalar.indexCast c4_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v114 : Index := Scalar.indexCast v96
  ![4, v114.toNat]
def k0_off257 (k0_t6 : Fin k0_t6_loop.trips) : Fin 2 → Nat :=
  let c5_i32 : BitVec 32 := 5#32
  let v120 : Index := Scalar.indexCast c5_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v121 : Index := Scalar.indexCast v96
  ![5, v121.toNat]
def k0_off258 (k0_t6 : Fin k0_t6_loop.trips) : Fin 2 → Nat :=
  let c6_i32 : BitVec 32 := 6#32
  let v127 : Index := Scalar.indexCast c6_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v128 : Index := Scalar.indexCast v96
  ![6, v128.toNat]
def k0_off259 (k0_t6 : Fin k0_t6_loop.trips) : Fin 2 → Nat :=
  let c7_i32 : BitVec 32 := 7#32
  let v134 : Index := Scalar.indexCast c7_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v135 : Index := Scalar.indexCast v96
  ![7, v135.toNat]
def k0_off260 (k0_t6 : Fin k0_t6_loop.trips) : Fin 2 → Nat :=
  let c8_i32_73 : BitVec 32 := 8#32
  let v141 : Index := Scalar.indexCast c8_i32_73
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v142 : Index := Scalar.indexCast v96
  ![8, v142.toNat]
def k0_off261 (k0_t6 : Fin k0_t6_loop.trips) : Fin 2 → Nat :=
  let c9_i32 : BitVec 32 := 9#32
  let v148 : Index := Scalar.indexCast c9_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v149 : Index := Scalar.indexCast v96
  ![9, v149.toNat]
def k0_off262 (k0_t6 : Fin k0_t6_loop.trips) : Fin 2 → Nat :=
  let c10_i32 : BitVec 32 := 10#32
  let v155 : Index := Scalar.indexCast c10_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v156 : Index := Scalar.indexCast v96
  ![10, v156.toNat]
def k0_off263 (k0_t6 : Fin k0_t6_loop.trips) : Fin 2 → Nat :=
  let c11_i32 : BitVec 32 := 11#32
  let v162 : Index := Scalar.indexCast c11_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v163 : Index := Scalar.indexCast v96
  ![11, v163.toNat]
def k0_off264 (k0_t6 : Fin k0_t6_loop.trips) : Fin 2 → Nat :=
  let c12_i32 : BitVec 32 := 12#32
  let v169 : Index := Scalar.indexCast c12_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v170 : Index := Scalar.indexCast v96
  ![12, v170.toNat]
def k0_off265 (k0_t6 : Fin k0_t6_loop.trips) : Fin 2 → Nat :=
  let c13_i32 : BitVec 32 := 13#32
  let v176 : Index := Scalar.indexCast c13_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v177 : Index := Scalar.indexCast v96
  ![13, v177.toNat]
def k0_off266 (k0_t6 : Fin k0_t6_loop.trips) : Fin 2 → Nat :=
  let c14_i32 : BitVec 32 := 14#32
  let v183 : Index := Scalar.indexCast c14_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v184 : Index := Scalar.indexCast v96
  ![14, v184.toNat]
def k0_off267 (k0_t6 : Fin k0_t6_loop.trips) : Fin 2 → Nat :=
  let c15_i32 : BitVec 32 := 15#32
  let v190 : Index := Scalar.indexCast c15_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v191 : Index := Scalar.indexCast v96
  ![15, v191.toNat]
def k0_off268 (k0_t6 : Fin k0_t6_loop.trips) : Fin 2 → Nat :=
  let c16_i32_82 : BitVec 32 := 16#32
  let v197 : Index := Scalar.indexCast c16_i32_82
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v198 : Index := Scalar.indexCast v96
  ![16, v198.toNat]
def k0_off269 (k0_t6 : Fin k0_t6_loop.trips) : Fin 2 → Nat :=
  let c17_i32 : BitVec 32 := 17#32
  let v204 : Index := Scalar.indexCast c17_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v205 : Index := Scalar.indexCast v96
  ![17, v205.toNat]
def k0_off270 (k0_t6 : Fin k0_t6_loop.trips) : Fin 2 → Nat :=
  let c18_i32 : BitVec 32 := 18#32
  let v211 : Index := Scalar.indexCast c18_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v212 : Index := Scalar.indexCast v96
  ![18, v212.toNat]
def k0_off271 (k0_t6 : Fin k0_t6_loop.trips) : Fin 2 → Nat :=
  let c19_i32 : BitVec 32 := 19#32
  let v218 : Index := Scalar.indexCast c19_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v219 : Index := Scalar.indexCast v96
  ![19, v219.toNat]
def k0_off272 (k0_t6 : Fin k0_t6_loop.trips) : Fin 2 → Nat :=
  let c20_i32 : BitVec 32 := 20#32
  let v225 : Index := Scalar.indexCast c20_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v226 : Index := Scalar.indexCast v96
  ![20, v226.toNat]
def k0_off273 (k0_t6 : Fin k0_t6_loop.trips) : Fin 2 → Nat :=
  let c21_i32 : BitVec 32 := 21#32
  let v232 : Index := Scalar.indexCast c21_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v233 : Index := Scalar.indexCast v96
  ![21, v233.toNat]
def k0_off274 (k0_t6 : Fin k0_t6_loop.trips) : Fin 2 → Nat :=
  let c22_i32 : BitVec 32 := 22#32
  let v239 : Index := Scalar.indexCast c22_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v240 : Index := Scalar.indexCast v96
  ![22, v240.toNat]
def k0_off275 (k0_t6 : Fin k0_t6_loop.trips) : Fin 2 → Nat :=
  let c23_i32 : BitVec 32 := 23#32
  let v246 : Index := Scalar.indexCast c23_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v247 : Index := Scalar.indexCast v96
  ![23, v247.toNat]
def k0_off276 (k0_t6 : Fin k0_t6_loop.trips) : Fin 2 → Nat :=
  let c24_i32 : BitVec 32 := 24#32
  let v253 : Index := Scalar.indexCast c24_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v254 : Index := Scalar.indexCast v96
  ![24, v254.toNat]
def k0_off277 (k0_t6 : Fin k0_t6_loop.trips) : Fin 2 → Nat :=
  let c25_i32 : BitVec 32 := 25#32
  let v260 : Index := Scalar.indexCast c25_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v261 : Index := Scalar.indexCast v96
  ![25, v261.toNat]
def k0_off278 (k0_t6 : Fin k0_t6_loop.trips) : Fin 2 → Nat :=
  let c26_i32 : BitVec 32 := 26#32
  let v267 : Index := Scalar.indexCast c26_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v268 : Index := Scalar.indexCast v96
  ![26, v268.toNat]
def k0_off279 (k0_t6 : Fin k0_t6_loop.trips) : Fin 2 → Nat :=
  let c27_i32 : BitVec 32 := 27#32
  let v274 : Index := Scalar.indexCast c27_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v275 : Index := Scalar.indexCast v96
  ![27, v275.toNat]
def k0_off280 (k0_t6 : Fin k0_t6_loop.trips) : Fin 2 → Nat :=
  let c28_i32 : BitVec 32 := 28#32
  let v281 : Index := Scalar.indexCast c28_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v282 : Index := Scalar.indexCast v96
  ![28, v282.toNat]
def k0_off281 (k0_t6 : Fin k0_t6_loop.trips) : Fin 2 → Nat :=
  let c29_i32 : BitVec 32 := 29#32
  let v288 : Index := Scalar.indexCast c29_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v289 : Index := Scalar.indexCast v96
  ![29, v289.toNat]
def k0_off282 (k0_t6 : Fin k0_t6_loop.trips) : Fin 2 → Nat :=
  let c30_i32 : BitVec 32 := 30#32
  let v295 : Index := Scalar.indexCast c30_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v296 : Index := Scalar.indexCast v96
  ![30, v296.toNat]
def k0_off283 (k0_t6 : Fin k0_t6_loop.trips) : Fin 2 → Nat :=
  let c31_i32 : BitVec 32 := 31#32
  let v302 : Index := Scalar.indexCast c31_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v303 : Index := Scalar.indexCast v96
  ![31, v303.toNat]
def k0_off284 (k0_t6 : Fin k0_t6_loop.trips) : Fin 2 → Nat :=
  let c32_i32_99 : BitVec 32 := 32#32
  let v309 : Index := Scalar.indexCast c32_i32_99
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v310 : Index := Scalar.indexCast v96
  ![32, v310.toNat]
def k0_off285 (k0_t6 : Fin k0_t6_loop.trips) : Fin 2 → Nat :=
  let c33_i32 : BitVec 32 := 33#32
  let v316 : Index := Scalar.indexCast c33_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v317 : Index := Scalar.indexCast v96
  ![33, v317.toNat]
def k0_off286 (k0_t6 : Fin k0_t6_loop.trips) : Fin 2 → Nat :=
  let c34_i32 : BitVec 32 := 34#32
  let v323 : Index := Scalar.indexCast c34_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v324 : Index := Scalar.indexCast v96
  ![34, v324.toNat]
def k0_off287 (k0_t6 : Fin k0_t6_loop.trips) : Fin 2 → Nat :=
  let c35_i32 : BitVec 32 := 35#32
  let v330 : Index := Scalar.indexCast c35_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v331 : Index := Scalar.indexCast v96
  ![35, v331.toNat]
def k0_off288 (k0_t6 : Fin k0_t6_loop.trips) : Fin 2 → Nat :=
  let c36_i32 : BitVec 32 := 36#32
  let v337 : Index := Scalar.indexCast c36_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v338 : Index := Scalar.indexCast v96
  ![36, v338.toNat]
def k0_off289 (k0_t6 : Fin k0_t6_loop.trips) : Fin 2 → Nat :=
  let c37_i32 : BitVec 32 := 37#32
  let v344 : Index := Scalar.indexCast c37_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v345 : Index := Scalar.indexCast v96
  ![37, v345.toNat]
def k0_off290 (k0_t6 : Fin k0_t6_loop.trips) : Fin 2 → Nat :=
  let c38_i32 : BitVec 32 := 38#32
  let v351 : Index := Scalar.indexCast c38_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v352 : Index := Scalar.indexCast v96
  ![38, v352.toNat]
def k0_off291 (k0_t6 : Fin k0_t6_loop.trips) : Fin 2 → Nat :=
  let c39_i32 : BitVec 32 := 39#32
  let v358 : Index := Scalar.indexCast c39_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v359 : Index := Scalar.indexCast v96
  ![39, v359.toNat]
def k0_off292 (k0_t6 : Fin k0_t6_loop.trips) : Fin 2 → Nat :=
  let c40_i32 : BitVec 32 := 40#32
  let v365 : Index := Scalar.indexCast c40_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v366 : Index := Scalar.indexCast v96
  ![40, v366.toNat]
def k0_off293 (k0_t6 : Fin k0_t6_loop.trips) : Fin 2 → Nat :=
  let c41_i32 : BitVec 32 := 41#32
  let v372 : Index := Scalar.indexCast c41_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v373 : Index := Scalar.indexCast v96
  ![41, v373.toNat]
def k0_off294 (k0_t6 : Fin k0_t6_loop.trips) : Fin 2 → Nat :=
  let c42_i32 : BitVec 32 := 42#32
  let v379 : Index := Scalar.indexCast c42_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v380 : Index := Scalar.indexCast v96
  ![42, v380.toNat]
def k0_off295 (k0_t6 : Fin k0_t6_loop.trips) : Fin 2 → Nat :=
  let c43_i32 : BitVec 32 := 43#32
  let v386 : Index := Scalar.indexCast c43_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v387 : Index := Scalar.indexCast v96
  ![43, v387.toNat]
def k0_off296 (k0_t6 : Fin k0_t6_loop.trips) : Fin 2 → Nat :=
  let c44_i32 : BitVec 32 := 44#32
  let v393 : Index := Scalar.indexCast c44_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v394 : Index := Scalar.indexCast v96
  ![44, v394.toNat]
def k0_off297 (k0_t6 : Fin k0_t6_loop.trips) : Fin 2 → Nat :=
  let c45_i32 : BitVec 32 := 45#32
  let v400 : Index := Scalar.indexCast c45_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v401 : Index := Scalar.indexCast v96
  ![45, v401.toNat]
def k0_off298 (k0_t6 : Fin k0_t6_loop.trips) : Fin 2 → Nat :=
  let c46_i32 : BitVec 32 := 46#32
  let v407 : Index := Scalar.indexCast c46_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v408 : Index := Scalar.indexCast v96
  ![46, v408.toNat]
def k0_off299 (k0_t6 : Fin k0_t6_loop.trips) : Fin 2 → Nat :=
  let c47_i32 : BitVec 32 := 47#32
  let v414 : Index := Scalar.indexCast c47_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v415 : Index := Scalar.indexCast v96
  ![47, v415.toNat]
def k0_off300 (k0_t6 : Fin k0_t6_loop.trips) : Fin 2 → Nat :=
  let c48_i32 : BitVec 32 := 48#32
  let v421 : Index := Scalar.indexCast c48_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v422 : Index := Scalar.indexCast v96
  ![48, v422.toNat]
def k0_off301 (k0_t6 : Fin k0_t6_loop.trips) : Fin 2 → Nat :=
  let c49_i32 : BitVec 32 := 49#32
  let v428 : Index := Scalar.indexCast c49_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v429 : Index := Scalar.indexCast v96
  ![49, v429.toNat]
def k0_off302 (k0_t6 : Fin k0_t6_loop.trips) : Fin 2 → Nat :=
  let c50_i32 : BitVec 32 := 50#32
  let v435 : Index := Scalar.indexCast c50_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v436 : Index := Scalar.indexCast v96
  ![50, v436.toNat]
def k0_off303 (k0_t6 : Fin k0_t6_loop.trips) : Fin 2 → Nat :=
  let c51_i32 : BitVec 32 := 51#32
  let v442 : Index := Scalar.indexCast c51_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v443 : Index := Scalar.indexCast v96
  ![51, v443.toNat]
def k0_off304 (k0_t6 : Fin k0_t6_loop.trips) : Fin 2 → Nat :=
  let c52_i32 : BitVec 32 := 52#32
  let v449 : Index := Scalar.indexCast c52_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v450 : Index := Scalar.indexCast v96
  ![52, v450.toNat]
def k0_off305 (k0_t6 : Fin k0_t6_loop.trips) : Fin 2 → Nat :=
  let c53_i32 : BitVec 32 := 53#32
  let v456 : Index := Scalar.indexCast c53_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v457 : Index := Scalar.indexCast v96
  ![53, v457.toNat]
def k0_off306 (k0_t6 : Fin k0_t6_loop.trips) : Fin 2 → Nat :=
  let c54_i32 : BitVec 32 := 54#32
  let v463 : Index := Scalar.indexCast c54_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v464 : Index := Scalar.indexCast v96
  ![54, v464.toNat]
def k0_off307 (k0_t6 : Fin k0_t6_loop.trips) : Fin 2 → Nat :=
  let c55_i32 : BitVec 32 := 55#32
  let v470 : Index := Scalar.indexCast c55_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v471 : Index := Scalar.indexCast v96
  ![55, v471.toNat]
def k0_off308 (k0_t6 : Fin k0_t6_loop.trips) : Fin 2 → Nat :=
  let c56_i32 : BitVec 32 := 56#32
  let v477 : Index := Scalar.indexCast c56_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v478 : Index := Scalar.indexCast v96
  ![56, v478.toNat]
def k0_off309 (k0_t6 : Fin k0_t6_loop.trips) : Fin 2 → Nat :=
  let c57_i32 : BitVec 32 := 57#32
  let v484 : Index := Scalar.indexCast c57_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v485 : Index := Scalar.indexCast v96
  ![57, v485.toNat]
def k0_off310 (k0_t6 : Fin k0_t6_loop.trips) : Fin 2 → Nat :=
  let c58_i32 : BitVec 32 := 58#32
  let v491 : Index := Scalar.indexCast c58_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v492 : Index := Scalar.indexCast v96
  ![58, v492.toNat]
def k0_off311 (k0_t6 : Fin k0_t6_loop.trips) : Fin 2 → Nat :=
  let c59_i32 : BitVec 32 := 59#32
  let v498 : Index := Scalar.indexCast c59_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v499 : Index := Scalar.indexCast v96
  ![59, v499.toNat]
def k0_off312 (k0_t6 : Fin k0_t6_loop.trips) : Fin 2 → Nat :=
  let c60_i32 : BitVec 32 := 60#32
  let v505 : Index := Scalar.indexCast c60_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v506 : Index := Scalar.indexCast v96
  ![60, v506.toNat]
def k0_off313 (k0_t6 : Fin k0_t6_loop.trips) : Fin 2 → Nat :=
  let c61_i32 : BitVec 32 := 61#32
  let v512 : Index := Scalar.indexCast c61_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v513 : Index := Scalar.indexCast v96
  ![61, v513.toNat]
def k0_off314 (k0_t6 : Fin k0_t6_loop.trips) : Fin 2 → Nat :=
  let c62_i32 : BitVec 32 := 62#32
  let v519 : Index := Scalar.indexCast c62_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v520 : Index := Scalar.indexCast v96
  ![62, v520.toNat]
def k0_off315 (k0_t6 : Fin k0_t6_loop.trips) : Fin 2 → Nat :=
  let c63_i32 : BitVec 32 := 63#32
  let v526 : Index := Scalar.indexCast c63_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v527 : Index := Scalar.indexCast v96
  ![63, v527.toNat]
def k0_off316 (k0_t6 : Fin k0_t6_loop.trips) : Fin 2 → Nat :=
  let c64_i32 : BitVec 32 := 64#32
  let v533 : Index := Scalar.indexCast c64_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v534 : Index := Scalar.indexCast v96
  ![64, v534.toNat]
def k0_off317 (k0_t6 : Fin k0_t6_loop.trips) : Fin 2 → Nat :=
  let c65_i32 : BitVec 32 := 65#32
  let v540 : Index := Scalar.indexCast c65_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v541 : Index := Scalar.indexCast v96
  ![65, v541.toNat]
def k0_off318 (k0_t6 : Fin k0_t6_loop.trips) : Fin 2 → Nat :=
  let c66_i32 : BitVec 32 := 66#32
  let v547 : Index := Scalar.indexCast c66_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v548 : Index := Scalar.indexCast v96
  ![66, v548.toNat]
def k0_off319 (k0_t6 : Fin k0_t6_loop.trips) : Fin 2 → Nat :=
  let c67_i32 : BitVec 32 := 67#32
  let v554 : Index := Scalar.indexCast c67_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v555 : Index := Scalar.indexCast v96
  ![67, v555.toNat]
def k0_off320 (k0_t6 : Fin k0_t6_loop.trips) : Fin 2 → Nat :=
  let c68_i32 : BitVec 32 := 68#32
  let v561 : Index := Scalar.indexCast c68_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v562 : Index := Scalar.indexCast v96
  ![68, v562.toNat]
def k0_off321 (k0_t6 : Fin k0_t6_loop.trips) : Fin 2 → Nat :=
  let c69_i32 : BitVec 32 := 69#32
  let v568 : Index := Scalar.indexCast c69_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v569 : Index := Scalar.indexCast v96
  ![69, v569.toNat]
def k0_off322 (k0_t6 : Fin k0_t6_loop.trips) : Fin 2 → Nat :=
  let c70_i32 : BitVec 32 := 70#32
  let v575 : Index := Scalar.indexCast c70_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v576 : Index := Scalar.indexCast v96
  ![70, v576.toNat]
def k0_off323 (k0_t6 : Fin k0_t6_loop.trips) : Fin 2 → Nat :=
  let c71_i32 : BitVec 32 := 71#32
  let v582 : Index := Scalar.indexCast c71_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v583 : Index := Scalar.indexCast v96
  ![71, v583.toNat]
def k0_off324 (k0_t6 : Fin k0_t6_loop.trips) : Fin 2 → Nat :=
  let c72_i32 : BitVec 32 := 72#32
  let v589 : Index := Scalar.indexCast c72_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v590 : Index := Scalar.indexCast v96
  ![72, v590.toNat]
def k0_off325 (k0_t6 : Fin k0_t6_loop.trips) : Fin 2 → Nat :=
  let c73_i32 : BitVec 32 := 73#32
  let v596 : Index := Scalar.indexCast c73_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v597 : Index := Scalar.indexCast v96
  ![73, v597.toNat]
def k0_off326 (k0_t6 : Fin k0_t6_loop.trips) : Fin 2 → Nat :=
  let c74_i32 : BitVec 32 := 74#32
  let v603 : Index := Scalar.indexCast c74_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v604 : Index := Scalar.indexCast v96
  ![74, v604.toNat]
def k0_off327 (k0_t6 : Fin k0_t6_loop.trips) : Fin 2 → Nat :=
  let c75_i32 : BitVec 32 := 75#32
  let v610 : Index := Scalar.indexCast c75_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v611 : Index := Scalar.indexCast v96
  ![75, v611.toNat]
def k0_off328 (k0_t6 : Fin k0_t6_loop.trips) : Fin 2 → Nat :=
  let c76_i32 : BitVec 32 := 76#32
  let v617 : Index := Scalar.indexCast c76_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v618 : Index := Scalar.indexCast v96
  ![76, v618.toNat]
def k0_off329 (k0_t6 : Fin k0_t6_loop.trips) : Fin 2 → Nat :=
  let c77_i32 : BitVec 32 := 77#32
  let v624 : Index := Scalar.indexCast c77_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v625 : Index := Scalar.indexCast v96
  ![77, v625.toNat]
def k0_off330 (k0_t6 : Fin k0_t6_loop.trips) : Fin 2 → Nat :=
  let c78_i32 : BitVec 32 := 78#32
  let v631 : Index := Scalar.indexCast c78_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v632 : Index := Scalar.indexCast v96
  ![78, v632.toNat]
def k0_off331 (k0_t6 : Fin k0_t6_loop.trips) : Fin 2 → Nat :=
  let c79_i32 : BitVec 32 := 79#32
  let v638 : Index := Scalar.indexCast c79_i32
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v639 : Index := Scalar.indexCast v96
  ![79, v639.toNat]
def k0_off332 (k0_t6 : Fin k0_t6_loop.trips) : Fin 1 → Nat :=
  let c0_i32_61 : BitVec 32 := 0#32
  let c0_i32_54 : BitVec 32 := 0#32
  let c1_i32_56 : BitVec 32 := 1#32
  let arg15 : BitVec 32 := Scf.iv c0_i32_54 c1_i32_56 k0_t6
  let c1_i32_60 : BitVec 32 := 1#32
  let v94 : BitVec 32 := Scalar.muli arg15 c1_i32_60
  let v95 : BitVec 32 := Scalar.addi c0_i32_61 v94
  let c16_i32 : BitVec 32 := 16#32
  let v96 : BitVec 32 := Scalar.muli v95 c16_i32
  let v669 : Index := Scalar.indexCast v96
  ![v669.toNat]
def k0_off333 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_31 : BitVec 32 := 2#32
  let c0_i32_22 : BitVec 32 := 0#32
  let c0_i32_23 : BitVec 32 := 0#32
  let c1536_i32 : BitVec 32 := 1536#32
  let v3 : BitVec 32 := Scalar.subi c1536_i32 v1
  let c32_i32 : BitVec 32 := 32#32
  let v4 : BitVec 32 := Scalar.addi v3 c32_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c32_i32_0 : BitVec 32 := 32#32
  let c0_i32_2 : BitVec 32 := 0#32
  let v12 : BitVec 1 := Scalar.cmpi .sgt c32_i32_0 c0_i32_2
  let v13 : BitVec 32 := Scalar.extui v12
  let c0_i32_3 : BitVec 32 := 0#32
  let v14 : BitVec 1 := Scalar.cmpi .slt c32_i32_0 c0_i32_3
  let v15 : BitVec 32 := Scalar.extui v14
  let v16 : BitVec 32 := Scalar.subi v13 v15
  let v17 : BitVec 1 := Scalar.cmpi .ne v11 v16
  let v18 : BitVec 32 := Scalar.remsi v5 c32_i32_0
  let c0_i32_4 : BitVec 32 := 0#32
  let v19 : BitVec 1 := Scalar.cmpi .ne v18 c0_i32_4
  let v20 : BitVec 1 := Scalar.andi v17 v19
  let v6 : BitVec 32 := Scalar.divsi v5 c32_i32_0
  let c1_i32_5 : BitVec 32 := 1#32
  let v21 : BitVec 32 := Scalar.subi v6 c1_i32_5
  let v22 : BitVec 32 := Scalar.select v20 v21 v6
  let c1_i32_9 : BitVec 32 := 1#32
  let v27 : BitVec 32 := Scalar.addi v22 c1_i32_9
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32_10 : BitVec 32 := 2#32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v27 c2_i32_10
  let c0_i32_15 : BitVec 32 := 0#32
  let v41 : BitVec 1 := Scalar.cmpi .ne v40 c0_i32_15
  let v42 : BitVec 1 := Scalar.andi v39 v41
  let v28 : BitVec 32 := Scalar.divsi v27 c2_i32_10
  let c1_i32_16 : BitVec 32 := 1#32
  let v43 : BitVec 32 := Scalar.subi v28 c1_i32_16
  let v44 : BitVec 32 := Scalar.select v42 v43 v28
  let c0_i32_17 : BitVec 32 := 0#32
  let v45 : BitVec 32 := Scalar.subi v44 c0_i32_17
  let c1_i32_18 : BitVec 32 := 1#32
  let c1_i32_19 : BitVec 32 := 1#32
  let v46 : BitVec 32 := Scalar.subi c1_i32_18 c1_i32_19
  let v47 : BitVec 32 := Scalar.addi v45 v46
  let c1_i32_20 : BitVec 32 := 1#32
  let v48 : BitVec 32 := Scalar.divsi v47 c1_i32_20
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg14 : BitVec 32 := Scf.iv v53 c1_i32_26 k0_t4
  let c1_i32_21 : BitVec 32 := 1#32
  let v58 : BitVec 32 := Scalar.muli arg14 c1_i32_21
  let v59 : BitVec 32 := Scalar.addi c0_i32_22 v58
  let v60 : BitVec 32 := Scalar.muli c2_i32_31 v59
  let c1_i32_32 : BitVec 32 := 1#32
  let v61 : BitVec 32 := Scalar.addi v60 c1_i32_32
  let c32_i32_58 : BitVec 32 := 32#32
  let v89 : BitVec 32 := Scalar.muli v61 c32_i32_58
  let v90 : BitVec 32 := Scalar.addi v1 v89
  let c128_i32_59 : BitVec 32 := 128#32
  let v91 : BitVec 32 := Scalar.muli v90 c128_i32_59
  ![v91.toNat]
abbrev grid1 : Pipeline.Grid := ⟨1, ![19], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc1_transform_2 (i : grid1.Coords) : Fin 1 → Nat :=
  let arg0 : BitVec 32 := BitVec.ofNat 32 (i 0).val
  let c0_i32 : BitVec 32 := 0#32
  ![arg0.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S80x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16384 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S500000x80 : Shape := ⟨2, ![500000, 80]⟩
abbrev S_ : Shape := ⟨0, ![]⟩
abbrev S500000 : Shape := ⟨1, ![500000]⟩

abbrev nBuf : Space → Nat
  | .hbm => 14
  | .vmem => 0
  | .smem => 0
  | _ => 0

abbrev bufTy : (tb : Table) → Fin (tcTables nBuf tb) → BufTy
  | .hbm, ⟨0, _⟩ => ⟨S500000x80, .f32⟩
  | .hbm, ⟨1, _⟩ => ⟨S_, .f32⟩
  | .hbm, ⟨2, _⟩ => ⟨S_, .f32⟩
  | .hbm, ⟨3, _⟩ => ⟨S500000, .f32⟩
  | .hbm, ⟨4, _⟩ => ⟨S500000x80, .i32⟩
  | .hbm, ⟨5, _⟩ => ⟨S_, .f32⟩
  | .hbm, ⟨6, _⟩ => ⟨S_, .i32⟩
  | .hbm, ⟨7, _⟩ => ⟨S500000, .f32⟩
  | .hbm, ⟨8, _⟩ => ⟨S500000, .i32⟩
  | .hbm, ⟨9, _⟩ => ⟨S500000, .f32⟩
  | .hbm, ⟨10, _⟩ => ⟨S500000, .i1⟩
  | .hbm, ⟨11, _⟩ => ⟨S_, .i32⟩
  | .hbm, ⟨12, _⟩ => ⟨S500000, .i32⟩
  | .hbm, ⟨13, _⟩ => ⟨S500000, .i32⟩
  | _, _ => ⟨S500000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩

abbrev nD : Nat := 1
abbrev τ : Topo := Topo.v7x

variable {F : FTy → Type} [FloatOps F]
-- ==== Proof.Setup.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

/-! # The program as the launch theorem sees it, and the names the proof speaks in -/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open Idealize.ShloMosaic.Rounds
open Idealize.SL.Sem

variable {F : FTy → Type}

/-- The labels: the pipeline's, over the one pallas call on the TensorCore. -/
abbrev ΛP : Labels := Pipeline.Sig Λ₀ (Fin 1) fun p => (pcfgs (F := F) p).Adm
/-- The one SparseCore call. -/
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are distinct and live outside every scope. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, the TensorCore pipeline's rounds, the transfers' counters. -/
abbrev UH : Type := URounds (GSem nD τ sig) ℕ
abbrev UU : Type := UH × (URounds (GSem nD τ sig) Unit × Counters)

/-- The handshakes' rounds, as a part of the whole resource. -/
abbrev EH : Emb UH (MT nD τ sig (HIx 1) (Elt F) ℕ UU ℕ) := embL

abbrev cV (L : grid0.Coords) : Fin τ.nSC := (L 0).castLE hcore0
abbrev jV (L : grid0.Coords) : Fin τ.nSub := (L 1).castLE hsub0
/-- The tile at grid coordinates `L`. -/
abbrev VT (d : Dev nD) (L : grid0.Coords) : Thread nD τ := V d (cV L) (jV L)

/-- The body's memrefs: the transposed scores, the threshold's sixteen copies, the SparseCore's part of the result. -/
abbrev xV : Memref sig .scVector .hbm S80x500000 .f32 := Memref.whole main_v0_scv
abbrev tV : Memref sig .scVector .hbm S16 .f32 := Memref.whole main_v1_scv
abbrev oV : Memref sig .scVector .hbm S196608 .i32 := Memref.whole main_v2_scv
/-- The tile's two score buffers, its two result buffers, its threshold buffer. -/
abbrev a5 : Memref sig .scVector .vmem S80x128 .f32 := Memref.whole cc0_scratch0
abbrev a6 : Memref sig .scVector .vmem S80x128 .f32 := Memref.whole cc0_scratch1
abbrev a7 : Memref sig .scVector .vmem S128 .i32 := Memref.whole cc0_scratch2
abbrev a8 : Memref sig .scVector .vmem S128 .i32 := Memref.whole cc0_scratch3
abbrev a9 : Memref sig .scVector .vmem S16 .f32 := Memref.whole cc0_scratch4

end Cert.Proof
-- ==== Proof.Lane.lean ====
module

public import proofs.«01_k».proof.Proof.Setup
public import Idealize.ShloMosaic.Lib.WritesUnit

/-! # What the SparseCore computes for one column

Four chains, the k-th over the classes congruent to k modulo 4, each keeping the greatest score so far and the
class that first reached it; then the chains merged one by one, equal scores going to the smaller class; then class 0
where the greatest score is below the threshold. -/

@[expose] public section

noncomputable section

namespace Cert.Proof

open Cert.KernelIdeal Cert.KernelIdeal.Gen
open Idealize.ShloMosaic

variable {F : FTy → Type}

/-- The place of row `c`, column `j` of a tile's score buffer (coordinates taken modulo the extents). -/
def ix (c j : ℕ) : S80x128.Idx := fun a => match a with
  | 0 => ⟨c % 80, Nat.mod_lt _ (by decide)⟩
  | 1 => ⟨j % 128, Nat.mod_lt _ (by decide)⟩

/-- Sixteen scores of class `c` from column `j` on. -/
def ldRow (f : S80x128.Idx → F .f32) (c j : ℕ) : Vec F S1x16 .f32 := fun y => f (ix c (j + (y 1).val))

variable [FloatOps F]

/-- Chain `k` after `n` further steps: the greatest of the scores `k, k + 4, …, k + 4 n`, with its class. -/
def chain (v : ℕ → F .f32) (k : ℕ) : ℕ → F .f32 × BitVec 32
  | 0 => (v k, BitVec.ofNat 32 k)
  | n + 1 => (FloatOps.maximumf (chain v k n).1 (v (k + 4 * (n + 1))),
      Scalar.select (FloatOps.cmpf .ogt (v (k + 4 * (n + 1))) (chain v k n).1) (BitVec.ofNat 32 (k + 4 * (n + 1))) (chain v k n).2)

/-- Merging: the second pair wins where its score is greater, or equal with the smaller class. -/
def wins (p q : F .f32 × BitVec 32) : BitVec 1 :=
  IntOp.ori (FloatOps.cmpf .ogt q.1 p.1) (IntOp.andi (FloatOps.cmpf .oeq q.1 p.1) (IntOp.cmpi .slt q.2 p.2))
def merge (p q : F .f32 × BitVec 32) : F .f32 × BitVec 32 :=
  (Scalar.select (wins p q) q.1 p.1, Scalar.select (wins p q) q.2 p.2)

/-- The class of the greatest of the eighty scores `v`, and 0 where that score is below `t`. -/
def best (v : ℕ → F .f32) : F .f32 × BitVec 32 :=
  merge (merge (merge (chain v 0 19) (chain v 1 19)) (chain v 2 19)) (chain v 3 19)
def scClass (v : ℕ → F .f32) (t : F .f32) : BitVec 32 :=
  Scalar.select (FloatOps.cmpf .olt (best v).1 t) 0#32 (best v).2

/-- The class of each of sixteen columns from `j` on of a tile's score buffer. -/
def laneClass (f : S80x128.Idx → F .f32) (j : ℕ) (t : Vec F S16 .f32) : IVec S16 32 := fun x =>
  scClass (fun c => shapeCast S16 (ldRow f c j) shapeCasts_S1x16_S16 x) (t x)

/-- The class of every column of a tile's score buffer `f`, at threshold `t`. -/
def bufClass (f : S80x128.Idx → F .f32) (t : F .f32) : S128.Idx → BitVec 32 := fun i =>
  scClass (fun c => f (ix c (i 0).val)) t

/-- A result buffer whose first `n` places hold the classes, the others what `o` held. -/
def upTo (f : S80x128.Idx → F .f32) (t : F .f32) (o : S128.Idx → BitVec 32) (n : ℕ) : S128.Idx → BitVec 32 := fun i =>
  if (i 0).val < n then bufClass f t i else o i

/-- The lane numbered `n`. -/
def lane (n : Fin 16) : S16.Idx := fun a => match a with
  | 0 => n

/-- Sixteen lanes as a row of sixteen: lane `x` sits at column `x`. -/
theorem lane_col (x : S16.Idx) : ((Shape.reshapeEquiv (shapeCasts_S1x16_S16) x : S1x16.Idx) 1).val = (x 0).val := by
  have h : ∀ n : Fin 16, ((Shape.reshapeEquiv (shapeCasts_S1x16_S16) (lane n) : S1x16.Idx) 1).val = n.val := by
    decide +kernel
  have hx : x = lane (x 0) := funext fun a => match a with | 0 => rfl
  rw [hx]; exact h _

/-- Lane `x` of the sixteen columns from `j` on is column `j + x`. -/
theorem laneClass_apply (f : S80x128.Idx → F .f32) (j : ℕ) {v : Vec F S16 .f32} {t : F .f32} (hv : ∀ x, v x = t) (x : S16.Idx) :
    laneClass f j v x = scClass (fun c => f (ix c (j + (x 0).val))) t := by
  unfold laneClass
  rw [hv x]
  congr 1
  funext c
  show f (ix c (j + _)) = _
  rw [lane_col]

/-- Storing the classes of columns `16 n … 16 n + 15` extends a buffer done up to `16 n` by sixteen. -/
theorem writes_upTo (m : Memref sig .scVector .vmem S128 .i32) (g : m.view.ty.Contents (Elt F)) (f : S80x128.Idx → F .f32)
    {v : Vec F S16 .f32} {t : F .f32} (hv : ∀ x, v x = t) (n : ℕ) {off : Fin 1 → ℕ} (inb : ∀ a, off a + S16.size a ≤ S128.size a)
    (ho : off = ![16 * n]) (o : S128.Idx → BitVec 32) (hg : m.view.read (Elt F) g = upTo f t o (16 * n)) :
    m.view.read (Elt F) (m.view.writes (Elt F) g [⟨Rect.unit (s := S128) off S16.size inb, laneClass f (16 * n) v⟩])
      = upTo f t o (16 * (n + 1)) := by
  subst ho
  funext y
  by_cases h1 : 16 * n ≤ (y 0).val ∧ (y 0).val < 16 * n + 16
  · have hx : (y 0).val - 16 * n < 16 := by omega
    rw [View.read_writes_cons_unit_of_mem m.view g inb _ [] y (lane ⟨(y 0).val - 16 * n, hx⟩) rfl (fun a => by
      match a with
      | 0 =>
      show (y 0).val = 16 * n + ((y 0).val - 16 * n)
      omega)]
    rw [laneClass_apply f (16 * n) hv]
    unfold upTo bufClass
    rw [if_pos (by omega)]
    show scClass (fun c => f (ix c (16 * n + ((y 0).val - 16 * n)))) t = _
    rw [show 16 * n + ((y 0).val - 16 * n) = (y 0).val by omega]
  · rw [View.read_writes_cons_unit_of_not_mem m.view g inb _ [] y rfl (0 : Fin 1) (by
      show (y 0).val < 16 * n ∨ 16 * n + 16 ≤ (y 0).val
      omega)]
    show m.view.read (Elt F) g y = _
    rw [hg]
    unfold upTo
    by_cases h2 : (y 0).val < 16 * n
    · rw [if_pos h2, if_pos (by omega)]
    · rw [if_neg h2, if_neg (by omega)]

end Cert.Proof
-- ==== Proof.GroupA.lean ====
module

public import proofs.«01_k».proof.Proof.Lane

/-! # Sixteen columns of the first tile buffer: one trip of the loop over its eight groups -/

@[expose] public section

set_option maxRecDepth 65536
set_option maxHeartbeats 0

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A load of sixteen scores of class `c` from column `j` on reads them. -/
theorem readAtA {d : Dev nD} {L : grid0.Coords} {f : Buf (Elt F) ((VT d L).loc cc0_scratch0)} {c j : ℕ} {off : Fin 2 → ℕ} (h : off = ![c, j])
    (inb : ∀ a, off a + S1x16.size a ≤ S80x128.size a) :
    View.readAt (Elt F) a5.view (Rect.unit (s := S80x128) off S1x16.size inb).toLoadRect f = ldRow f c j := by
  subst h
  have h0 : c + 1 ≤ 80 := inb 0
  have h1 : j + 16 ≤ 128 := inb 1
  funext y
  have hy0 : (y 0).val < 1 := (y 0).isLt
  have hy1 : (y 1).val < 16 := (y 1).isLt
  refine congrArg f (funext fun a => Fin.ext ?_)
  match a with
  | 0 =>
    show c + 1 * (y 0).val = c % 80
    omega
  | 1 =>
    show j + 1 * (y 1).val = (j + (y 1).val) % 128
    omega

variable [FloatOps F]

/-- One trip: with the first `k` groups' classes in the result buffer, it leaves the first `k + 1` groups'. -/
theorem groupA (d : Dev nD) (L : grid0.Coords) {v2 : Vec F S16 .f32} {t : F .f32} (hv2 : ∀ x, v2 x = t) (k : Fin k0_t2_loop.trips)
    (f5 : Buf (Elt F) ((VT d L).loc cc0_scratch0)) (o o' : Buf (Elt F) ((VT d L).loc cc0_scratch2))
    (ho : o' = upTo f5 t o (16 * k.val)) :
    iprop((a5.view.loc (VT d L) ↦[a5.view.set]{fullShare} f5) ∗ (a7.view.loc (VT d L) ↦[a7.view.set]{fullShare} o'))
      ⊢ (wp frame (wpE (defs₀ (F := F)) 𝒱₀ (VT d L) none) Set.univ
          (k0_t2_body L xV (Memref.isWhole_whole _) tV (Memref.isWhole_whole _) oV (Memref.isWhole_whole _) a5 (Memref.isWhole_whole _)
            a6 (Memref.isWhole_whole _) a7 (Memref.isWhole_whole _) a8 (Memref.isWhole_whole _) a9 (Memref.isWhole_whole _)
            cc0_scratch5 cc0_scratch6 cc0_scratch7 cc0_scratch8 cc0_scoped0 v2 k ⟨⟩)
          fun _ => iprop((a5.view.loc (VT d L) ↦[a5.view.set]{fullShare} f5)
            ∗ (a7.view.loc (VT d L) ↦[a7.view.set]{fullShare} upTo f5 t o (16 * (k.val + 1)))) : sProp 𝕄) := by
  iintro ⟨H5, H7⟩
  unfold k0_t2_body
  sl_exec
  have hv : k0_pay1 v2 (groupA.sl.r_106 d L k f5) (groupA.sl.r_107 d L k f5) (groupA.sl.r_108 d L k f5)
            (groupA.sl.r_109 d L k f5) (groupA.sl.r_110 d L k f5) (groupA.sl.r_111 d L k f5) (groupA.sl.r_112 d L k f5)
            (groupA.sl.r_113 d L k f5) (groupA.sl.r_114 d L k f5)
            (View.readAt (Elt F) a5.view (Rect.unit (s := S80x128) (k0_off82 k) S1x16.size (k0_off82_inb k)).toLoadRect f5)
          = laneClass f5 (16 * k.val) v2 := by
    funext x
    delta groupA.sl.r_114
    delta groupA.sl.r_113
    delta groupA.sl.r_112
    delta groupA.sl.r_111
    delta groupA.sl.r_110
    delta groupA.sl.r_109
    delta groupA.sl.r_108
    delta groupA.sl.r_107
    delta groupA.sl.r_106
    delta groupA.sl.r_105
    delta groupA.sl.r_104
    delta groupA.sl.r_103
    delta groupA.sl.r_102
    delta groupA.sl.r_101
    delta groupA.sl.r_100
    delta groupA.sl.r_99
    delta groupA.sl.r_98
    delta groupA.sl.r_97
    delta groupA.sl.r_96
    delta groupA.sl.r_95
    delta groupA.sl.r_94
    delta groupA.sl.r_93
    delta groupA.sl.r_92
    delta groupA.sl.r_91
    delta groupA.sl.r_90
    delta groupA.sl.r_89
    delta groupA.sl.r_88
    delta groupA.sl.r_87
    delta groupA.sl.r_86
    delta groupA.sl.r_85
    delta groupA.sl.r_84
    delta groupA.sl.r_83
    delta groupA.sl.r_82
    delta groupA.sl.r_81
    delta groupA.sl.r_80
    delta groupA.sl.r_79
    delta groupA.sl.r_78
    delta groupA.sl.r_77
    delta groupA.sl.r_76
    delta groupA.sl.r_75
    delta groupA.sl.r_74
    delta groupA.sl.r_73
    delta groupA.sl.r_72
    delta groupA.sl.r_71
    delta groupA.sl.r_70
    delta groupA.sl.r_69
    delta groupA.sl.r_68
    delta groupA.sl.r_67
    delta groupA.sl.r_66
    delta groupA.sl.r_65
    delta groupA.sl.r_64
    delta groupA.sl.r_63
    delta groupA.sl.r_62
    delta groupA.sl.r_61
    delta groupA.sl.r_60
    delta groupA.sl.r_59
    delta groupA.sl.r_58
    delta groupA.sl.r_57
    delta groupA.sl.r_56
    delta groupA.sl.r_55
    delta groupA.sl.r_54
    delta groupA.sl.r_53
    delta groupA.sl.r_52
    delta groupA.sl.r_51
    delta groupA.sl.r_50
    delta groupA.sl.r_49
    delta groupA.sl.r_48
    delta groupA.sl.r_47
    delta groupA.sl.r_46
    delta groupA.sl.r_45
    delta groupA.sl.r_44
    delta groupA.sl.r_43
    delta groupA.sl.r_42
    delta groupA.sl.r_41
    delta groupA.sl.r_40
    delta groupA.sl.r_39
    delta groupA.sl.r_38
    delta groupA.sl.r_37
    delta groupA.sl.r_36
    delta groupA.sl.r_35
    delta groupA.sl.r_34
    delta groupA.sl.r_33
    delta groupA.sl.r_32
    delta groupA.sl.r_31
    delta groupA.sl.r_30
    delta groupA.sl.r_29
    delta groupA.sl.r_28
    delta groupA.sl.r_27
    delta groupA.sl.r_26
    delta groupA.sl.r_25
    delta groupA.sl.r_24
    delta groupA.sl.r_23
    delta groupA.sl.r_22
    delta groupA.sl.r_21
    delta groupA.sl.r_20
    delta groupA.sl.r_19
    delta groupA.sl.r_18
    delta groupA.sl.r_17
    delta groupA.sl.r_16
    delta groupA.sl.r_15
    delta groupA.sl.r_14
    delta groupA.sl.r_13
    delta groupA.sl.r_12
    delta groupA.sl.r_11
    delta groupA.sl.r_10
    delta groupA.sl.r_9
    delta groupA.sl.r_8
    delta groupA.sl.r_7
    delta groupA.sl.r_6
    delta groupA.sl.r_5
    delta groupA.sl.r_4
    delta groupA.sl.r_3
    delta groupA.sl.r_2
    delta groupA.sl.r_1
    delta groupA.sl.r
    rw [readAtA (k0_off3_eq k), readAtA (k0_off4_eq k), readAtA (k0_off5_eq k), readAtA (k0_off6_eq k), readAtA (k0_off7_eq k), readAtA (k0_off8_eq k), readAtA (k0_off9_eq k), readAtA (k0_off10_eq k), readAtA (k0_off11_eq k), readAtA (k0_off12_eq k), readAtA (k0_off13_eq k), readAtA (k0_off14_eq k), readAtA (k0_off15_eq k), readAtA (k0_off16_eq k), readAtA (k0_off17_eq k), readAtA (k0_off18_eq k), readAtA (k0_off19_eq k), readAtA (k0_off20_eq k), readAtA (k0_off21_eq k), readAtA (k0_off22_eq k), readAtA (k0_off23_eq k), readAtA (k0_off24_eq k), readAtA (k0_off25_eq k), readAtA (k0_off26_eq k), readAtA (k0_off27_eq k), readAtA (k0_off28_eq k), readAtA (k0_off29_eq k), readAtA (k0_off30_eq k), readAtA (k0_off31_eq k), readAtA (k0_off32_eq k), readAtA (k0_off33_eq k), readAtA (k0_off34_eq k), readAtA (k0_off35_eq k), readAtA (k0_off36_eq k), readAtA (k0_off37_eq k), readAtA (k0_off38_eq k), readAtA (k0_off39_eq k), readAtA (k0_off40_eq k), readAtA (k0_off41_eq k), readAtA (k0_off42_eq k), readAtA (k0_off43_eq k), readAtA (k0_off44_eq k), readAtA (k0_off45_eq k), readAtA (k0_off46_eq k), readAtA (k0_off47_eq k), readAtA (k0_off48_eq k), readAtA (k0_off49_eq k), readAtA (k0_off50_eq k), readAtA (k0_off51_eq k), readAtA (k0_off52_eq k), readAtA (k0_off53_eq k), readAtA (k0_off54_eq k), readAtA (k0_off55_eq k), readAtA (k0_off56_eq k), readAtA (k0_off57_eq k), readAtA (k0_off58_eq k), readAtA (k0_off59_eq k), readAtA (k0_off60_eq k), readAtA (k0_off61_eq k), readAtA (k0_off62_eq k), readAtA (k0_off63_eq k), readAtA (k0_off64_eq k), readAtA (k0_off65_eq k), readAtA (k0_off66_eq k), readAtA (k0_off67_eq k), readAtA (k0_off68_eq k), readAtA (k0_off69_eq k), readAtA (k0_off70_eq k), readAtA (k0_off71_eq k), readAtA (k0_off72_eq k), readAtA (k0_off73_eq k), readAtA (k0_off74_eq k), readAtA (k0_off75_eq k), readAtA (k0_off76_eq k), readAtA (k0_off77_eq k), readAtA (k0_off78_eq k), readAtA (k0_off79_eq k), readAtA (k0_off80_eq k), readAtA (k0_off81_eq k), readAtA (k0_off82_eq k)]
    rfl
  rw [hv]
  have hw := writes_upTo a7 o' f5 hv2 k.val (k0_off83_inb k) (k0_off83_eq k) o (by rw [ho]; rfl)
  rw [show (a7.view.writes (Elt F) o' [⟨Rect.unit (s := S128) (k0_off83 k) S16.size (k0_off83_inb k), laneClass f5 (16 * k.val) v2⟩])
    = upTo f5 t o (16 * (k.val + 1)) from hw]
  sl_step
  isplitl [H5]; · iexact H5
  iexact H7

end Cert.Proof
-- ==== Proof.GroupB.lean ====
module

public import proofs.«01_k».proof.Proof.Lane

/-! # Sixteen columns of the second tile buffer: one trip of the loop over its eight groups -/

@[expose] public section

set_option maxRecDepth 65536
set_option maxHeartbeats 0

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A load of sixteen scores of class `c` from column `j` on reads them. -/
theorem readAtB {d : Dev nD} {L : grid0.Coords} {f : Buf (Elt F) ((VT d L).loc cc0_scratch1)} {c j : ℕ} {off : Fin 2 → ℕ} (h : off = ![c, j])
    (inb : ∀ a, off a + S1x16.size a ≤ S80x128.size a) :
    View.readAt (Elt F) a6.view (Rect.unit (s := S80x128) off S1x16.size inb).toLoadRect f = ldRow f c j := by
  subst h
  have h0 : c + 1 ≤ 80 := inb 0
  have h1 : j + 16 ≤ 128 := inb 1
  funext y
  have hy0 : (y 0).val < 1 := (y 0).isLt
  have hy1 : (y 1).val < 16 := (y 1).isLt
  refine congrArg f (funext fun a => Fin.ext ?_)
  match a with
  | 0 =>
    show c + 1 * (y 0).val = c % 80
    omega
  | 1 =>
    show j + 1 * (y 1).val = (j + (y 1).val) % 128
    omega

variable [FloatOps F]

/-- One trip: with the first `k` groups' classes in the result buffer, it leaves the first `k + 1` groups'. -/
theorem groupB (d : Dev nD) (L : grid0.Coords) {v2 : Vec F S16 .f32} {t : F .f32} (hv2 : ∀ x, v2 x = t) (k0_t1 : Fin (k0_t1_loop L).trips) (k0_h3 : k0_cond3 L k0_t1 = 1#1) (k : Fin k0_t3_loop.trips)
    (f5 : Buf (Elt F) ((VT d L).loc cc0_scratch1)) (o o' : Buf (Elt F) ((VT d L).loc cc0_scratch3))
    (ho : o' = upTo f5 t o (16 * k.val)) :
    iprop((a6.view.loc (VT d L) ↦[a6.view.set]{fullShare} f5) ∗ (a8.view.loc (VT d L) ↦[a8.view.set]{fullShare} o'))
      ⊢ (wp frame (wpE (defs₀ (F := F)) 𝒱₀ (VT d L) none) Set.univ
          (k0_t3_body L xV (Memref.isWhole_whole _) tV (Memref.isWhole_whole _) oV (Memref.isWhole_whole _) a5 (Memref.isWhole_whole _)
            a6 (Memref.isWhole_whole _) a7 (Memref.isWhole_whole _) a8 (Memref.isWhole_whole _) a9 (Memref.isWhole_whole _)
            cc0_scratch5 cc0_scratch6 cc0_scratch7 cc0_scratch8 cc0_scoped0 v2 k0_t1 k0_h3 k ⟨⟩)
          fun _ => iprop((a6.view.loc (VT d L) ↦[a6.view.set]{fullShare} f5)
            ∗ (a8.view.loc (VT d L) ↦[a8.view.set]{fullShare} upTo f5 t o (16 * (k.val + 1)))) : sProp 𝕄) := by
  iintro ⟨H5, H7⟩
  unfold k0_t3_body
  sl_exec
  have hv : k0_pay2 v2 (groupB.sl.r_106 d L k0_t1 k0_h3 k f5) (groupB.sl.r_107 d L k0_t1 k0_h3 k f5) (groupB.sl.r_108 d L k0_t1 k0_h3 k f5)
            (groupB.sl.r_109 d L k0_t1 k0_h3 k f5) (groupB.sl.r_110 d L k0_t1 k0_h3 k f5) (groupB.sl.r_111 d L k0_t1 k0_h3 k f5) (groupB.sl.r_112 d L k0_t1 k0_h3 k f5)
            (groupB.sl.r_113 d L k0_t1 k0_h3 k f5) (groupB.sl.r_114 d L k0_t1 k0_h3 k f5)
            (View.readAt (Elt F) a6.view (Rect.unit (s := S80x128) (k0_off165 k) S1x16.size (k0_off165_inb L k0_t1 k k0_h3)).toLoadRect f5)
          = laneClass f5 (16 * k.val) v2 := by
    funext x
    delta groupB.sl.r_114
    delta groupB.sl.r_113
    delta groupB.sl.r_112
    delta groupB.sl.r_111
    delta groupB.sl.r_110
    delta groupB.sl.r_109
    delta groupB.sl.r_108
    delta groupB.sl.r_107
    delta groupB.sl.r_106
    delta groupB.sl.r_105
    delta groupB.sl.r_104
    delta groupB.sl.r_103
    delta groupB.sl.r_102
    delta groupB.sl.r_101
    delta groupB.sl.r_100
    delta groupB.sl.r_99
    delta groupB.sl.r_98
    delta groupB.sl.r_97
    delta groupB.sl.r_96
    delta groupB.sl.r_95
    delta groupB.sl.r_94
    delta groupB.sl.r_93
    delta groupB.sl.r_92
    delta groupB.sl.r_91
    delta groupB.sl.r_90
    delta groupB.sl.r_89
    delta groupB.sl.r_88
    delta groupB.sl.r_87
    delta groupB.sl.r_86
    delta groupB.sl.r_85
    delta groupB.sl.r_84
    delta groupB.sl.r_83
    delta groupB.sl.r_82
    delta groupB.sl.r_81
    delta groupB.sl.r_80
    delta groupB.sl.r_79
    delta groupB.sl.r_78
    delta groupB.sl.r_77
    delta groupB.sl.r_76
    delta groupB.sl.r_75
    delta groupB.sl.r_74
    delta groupB.sl.r_73
    delta groupB.sl.r_72
    delta groupB.sl.r_71
    delta groupB.sl.r_70
    delta groupB.sl.r_69
    delta groupB.sl.r_68
    delta groupB.sl.r_67
    delta groupB.sl.r_66
    delta groupB.sl.r_65
    delta groupB.sl.r_64
    delta groupB.sl.r_63
    delta groupB.sl.r_62
    delta groupB.sl.r_61
    delta groupB.sl.r_60
    delta groupB.sl.r_59
    delta groupB.sl.r_58
    delta groupB.sl.r_57
    delta groupB.sl.r_56
    delta groupB.sl.r_55
    delta groupB.sl.r_54
    delta groupB.sl.r_53
    delta groupB.sl.r_52
    delta groupB.sl.r_51
    delta groupB.sl.r_50
    delta groupB.sl.r_49
    delta groupB.sl.r_48
    delta groupB.sl.r_47
    delta groupB.sl.r_46
    delta groupB.sl.r_45
    delta groupB.sl.r_44
    delta groupB.sl.r_43
    delta groupB.sl.r_42
    delta groupB.sl.r_41
    delta groupB.sl.r_40
    delta groupB.sl.r_39
    delta groupB.sl.r_38
    delta groupB.sl.r_37
    delta groupB.sl.r_36
    delta groupB.sl.r_35
    delta groupB.sl.r_34
    delta groupB.sl.r_33
    delta groupB.sl.r_32
    delta groupB.sl.r_31
    delta groupB.sl.r_30
    delta groupB.sl.r_29
    delta groupB.sl.r_28
    delta groupB.sl.r_27
    delta groupB.sl.r_26
    delta groupB.sl.r_25
    delta groupB.sl.r_24
    delta groupB.sl.r_23
    delta groupB.sl.r_22
    delta groupB.sl.r_21
    delta groupB.sl.r_20
    delta groupB.sl.r_19
    delta groupB.sl.r_18
    delta groupB.sl.r_17
    delta groupB.sl.r_16
    delta groupB.sl.r_15
    delta groupB.sl.r_14
    delta groupB.sl.r_13
    delta groupB.sl.r_12
    delta groupB.sl.r_11
    delta groupB.sl.r_10
    delta groupB.sl.r_9
    delta groupB.sl.r_8
    delta groupB.sl.r_7
    delta groupB.sl.r_6
    delta groupB.sl.r_5
    delta groupB.sl.r_4
    delta groupB.sl.r_3
    delta groupB.sl.r_2
    delta groupB.sl.r_1
    delta groupB.sl.r
    rw [readAtB (k0_off86_eq k), readAtB (k0_off87_eq k), readAtB (k0_off88_eq k), readAtB (k0_off89_eq k), readAtB (k0_off90_eq k), readAtB (k0_off91_eq k), readAtB (k0_off92_eq k), readAtB (k0_off93_eq k), readAtB (k0_off94_eq k), readAtB (k0_off95_eq k), readAtB (k0_off96_eq k), readAtB (k0_off97_eq k), readAtB (k0_off98_eq k), readAtB (k0_off99_eq k), readAtB (k0_off100_eq k), readAtB (k0_off101_eq k), readAtB (k0_off102_eq k), readAtB (k0_off103_eq k), readAtB (k0_off104_eq k), readAtB (k0_off105_eq k), readAtB (k0_off106_eq k), readAtB (k0_off107_eq k), readAtB (k0_off108_eq k), readAtB (k0_off109_eq k), readAtB (k0_off110_eq k), readAtB (k0_off111_eq k), readAtB (k0_off112_eq k), readAtB (k0_off113_eq k), readAtB (k0_off114_eq k), readAtB (k0_off115_eq k), readAtB (k0_off116_eq k), readAtB (k0_off117_eq k), readAtB (k0_off118_eq k), readAtB (k0_off119_eq k), readAtB (k0_off120_eq k), readAtB (k0_off121_eq k), readAtB (k0_off122_eq k), readAtB (k0_off123_eq k), readAtB (k0_off124_eq k), readAtB (k0_off125_eq k), readAtB (k0_off126_eq k), readAtB (k0_off127_eq k), readAtB (k0_off128_eq k), readAtB (k0_off129_eq k), readAtB (k0_off130_eq k), readAtB (k0_off131_eq k), readAtB (k0_off132_eq k), readAtB (k0_off133_eq k), readAtB (k0_off134_eq k), readAtB (k0_off135_eq k), readAtB (k0_off136_eq k), readAtB (k0_off137_eq k), readAtB (k0_off138_eq k), readAtB (k0_off139_eq k), readAtB (k0_off140_eq k), readAtB (k0_off141_eq k), readAtB (k0_off142_eq k), readAtB (k0_off143_eq k), readAtB (k0_off144_eq k), readAtB (k0_off145_eq k), readAtB (k0_off146_eq k), readAtB (k0_off147_eq k), readAtB (k0_off148_eq k), readAtB (k0_off149_eq k), readAtB (k0_off150_eq k), readAtB (k0_off151_eq k), readAtB (k0_off152_eq k), readAtB (k0_off153_eq k), readAtB (k0_off154_eq k), readAtB (k0_off155_eq k), readAtB (k0_off156_eq k), readAtB (k0_off157_eq k), readAtB (k0_off158_eq k), readAtB (k0_off159_eq k), readAtB (k0_off160_eq k), readAtB (k0_off161_eq k), readAtB (k0_off162_eq k), readAtB (k0_off163_eq k), readAtB (k0_off164_eq k), readAtB (k0_off165_eq k)]
    rfl
  rw [hv]
  have hw := writes_upTo a8 o' f5 hv2 k.val (k0_off166_inb L k0_t1 k k0_h3) (k0_off166_eq k) o (by rw [ho]; rfl)
  rw [show (a8.view.writes (Elt F) o' [⟨Rect.unit (s := S128) (k0_off166 k) S16.size (k0_off166_inb L k0_t1 k k0_h3), laneClass f5 (16 * k.val) v2⟩])
    = upTo f5 t o (16 * (k.val + 1)) from hw]
  sl_step
  isplitl [H5]; · iexact H5
  iexact H7

end Cert.Proof
-- ==== Proof.Chunks.lean ====
module

public import proofs.«01_k».proof.Proof.Lane

/-! # A tile's forty-eight chunks of 128 columns

Chunk `n` of the tile at coordinates `L` starts at column `256 s + 128 c + 4096 n`. Its scores are copied into one of the
two score buffers; its classes are copied out of one of the two result buffers. -/

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The first column of chunk `n` (taken as 47 beyond the last). -/
def colBase (L : grid0.Coords) (n : ℕ) : ℕ := 256 * (L 1).val + 128 * (L 0).val + 4096 * min n 47

theorem colBase_le (L : grid0.Coords) (n : ℕ) : colBase L n + 128 ≤ 196608 := by
  have h0 : (L 0).val < 2 := (L 0).isLt
  have h1 : (L 1).val < 16 := (L 1).isLt
  unfold colBase
  omega

theorem xinb (L : grid0.Coords) (n : ℕ) : ∀ a, (![0, colBase L n] : Fin 2 → ℕ) a + S80x128.size a ≤ S80x500000.size a := fun a => by
  have h := colBase_le L n
  match a with
  | 0 => show 0 + 80 ≤ 80; omega
  | 1 => show colBase L n + 128 ≤ 500000; omega

theorem oinb (L : grid0.Coords) (n : ℕ) : ∀ a, (![colBase L n] : Fin 1 → ℕ) a + S128.size a ≤ S196608.size a := fun a => by
  have h := colBase_le L n
  match a with
  | 0 => show colBase L n + 128 ≤ 196608; omega

/-- Chunk `n` of the transposed scores, and of the result. -/
abbrev xsl (L : grid0.Coords) (n : ℕ) : Memref sig .scVector .hbm S80x128 .f32 :=
  xV.slice (Rect.unit (s := S80x500000) ![0, colBase L n] S80x128.size (xinb L n)) (fun _ => rfl)
abbrev osl (L : grid0.Coords) (n : ℕ) : Memref sig .scVector .hbm S128 .i32 :=
  oV.slice (Rect.unit (s := S196608) ![colBase L n] S128.size (oinb L n)) (fun _ => rfl)

/-- Where the program's slices are these chunks. -/
theorem slice_x {L : grid0.Coords} {n : ℕ} {off : Fin 2 → ℕ} (h : off = ![0, colBase L n]) (inb : ∀ a, off a + S80x128.size a ≤ S80x500000.size a) :
    xV.slice (Rect.unit (s := S80x500000) off S80x128.size inb) (fun _ => rfl) = xsl L n := by
  subst h; rfl
theorem slice_o {L : grid0.Coords} {n : ℕ} {off : Fin 1 → ℕ} (h : off = ![colBase L n]) (inb : ∀ a, off a + S128.size a ≤ S196608.size a) :
    oV.slice (Rect.unit (s := S196608) off S128.size inb) (fun _ => rfl) = osl L n := by
  subst h; rfl

theorem off1_col (L : grid0.Coords) : k0_off1 L = ![0, colBase L 0] := k0_off1_eq L
theorem trip_lt {L : grid0.Coords} (k : Fin (k0_t1_loop L).trips) : k.val < 24 := Nat.lt_of_lt_of_le k.isLt (k0_t1_abs L).2.1
theorem off2_col (L : grid0.Coords) (k : Fin (k0_t1_loop L).trips) : k0_off2 L k = ![0, colBase L (2 * k.val + 1)] := by
  have := trip_lt k
  rw [k0_off2_eq]; unfold colBase
  rw [show 256 * (L 1).val + 128 * (L 0).val + 8192 * k.val + 4096 = 256 * (L 1).val + 128 * (L 0).val + 4096 * min (2 * k.val + 1) 47 by omega]
theorem off85_col (L : grid0.Coords) (k : Fin (k0_t1_loop L).trips) (hk : k.val < 23) : k0_off85 L k = ![0, colBase L (2 * (k.val + 1))] := by
  rw [k0_off85_eq]; unfold colBase
  rw [show 256 * (L 1).val + 128 * (L 0).val + 8192 * k.val + 8192 = 256 * (L 1).val + 128 * (L 0).val + 4096 * min (2 * (k.val + 1)) 47 by omega]
theorem off84_col (L : grid0.Coords) (k : Fin (k0_t1_loop L).trips) : k0_off84 L k = ![colBase L (2 * k.val)] := by
  have := trip_lt k
  rw [k0_off84_eq]; unfold colBase
  rw [show 256 * (L 1).val + 128 * (L 0).val + 8192 * k.val = 256 * (L 1).val + 128 * (L 0).val + 4096 * min (2 * k.val) 47 by omega]
theorem off167_col (L : grid0.Coords) (k : Fin (k0_t1_loop L).trips) : k0_off167 L k = ![colBase L (2 * k.val + 1)] := by
  have := trip_lt k
  rw [k0_off167_eq]; unfold colBase
  rw [show 256 * (L 1).val + 128 * (L 0).val + 8192 * k.val + 4096 = 256 * (L 1).val + 128 * (L 0).val + 4096 * min (2 * k.val + 1) 47 by omega]

theorem trips_eq (L : grid0.Coords) : (k0_t1_loop L).trips = 24 := by
  revert L; decide +kernel
theorem cond1_true (L : grid0.Coords) (k : Fin (k0_t1_loop L).trips) : k0_cond1 L k = 1#1 := by
  revert k; revert L; decide +kernel
theorem cond3_true (L : grid0.Coords) (k : Fin (k0_t1_loop L).trips) : k0_cond3 L k = 1#1 := by
  revert k; revert L; decide +kernel
theorem cond4_iff (L : grid0.Coords) (k : Fin (k0_t1_loop L).trips) : k0_cond4 L k = 1#1 ↔ k.val < 23 := by
  revert k; revert L; decide +kernel
theorem past_first : ∀ k : Fin 24, Scalar.cmpi .ne (Scalar.extui (Scalar.cmpi .sgt (Scalar.addi 0#32 (Scalar.muli (Scf.iv 0#32 1#32 k.val) 1#32)) 0#32) : BitVec 32) 0#32 = 1#1 ↔ 0 < k.val := by
  decide +kernel

/-- Columns `b … b + 127` of the transposed scores, as a score buffer. -/
def xbuf (f0 : S80x500000.Idx → F .f32) (b : ℕ) : S80x128.Idx → F .f32 := fun i =>
  f0 fun a => match a with
    | 0 => ⟨(i 0).val, (i 0).isLt⟩
    | 1 => ⟨(b + (i 1).val) % 500000, Nat.mod_lt _ (by decide)⟩

/-- Place (`c`, `n`) of the transposed scores (coordinates taken modulo the extents). -/
def ixT (c n : ℕ) : S80x500000.Idx := fun a => match a with
  | 0 => ⟨c % 80, Nat.mod_lt _ (by decide)⟩
  | 1 => ⟨n % 500000, Nat.mod_lt _ (by decide)⟩

section
variable [FloatOps F]

/-- The classes of the first 196608 columns. -/
def outF (f0 : S80x500000.Idx → F .f32) (t : F .f32) : S196608.Idx → BitVec 32 := fun i =>
  scClass (fun c => f0 (ixT c (i 0).val)) t

end

theorem mem_osl {L : grid0.Coords} {n : ℕ} (i : S196608.Idx) : i ∈ (osl L n).view.set ↔ colBase L n ≤ (i 0).val ∧ (i 0).val < colBase L n + 128 := by
  rw [show (osl L n).view.set = (Rect.unit (s := S196608) ![colBase L n] S128.size (oinb L n)).set from View.set_slice_whole _ _, Rect.mem_set_unit]
  constructor
  · intro h; exact h 0
  · intro h a
    match a with
    | 0 => exact h

/-- A copy of chunk `n` into the first score buffer, as its wait hands it back. -/
theorem land_a5 (d : Dev nD) {L : grid0.Coords} {n : ℕ} {off : Fin 2 → ℕ} (h : off = ![0, colBase L n]) (inb : ∀ a, off a + S80x128.size a ≤ S80x500000.size a)
    (q : PosShare TreeShare) (f0 : Buf (Elt F) ((VT d L).loc main_v0_scv)) (g : Buf (Elt F) ((VT d L).loc cc0_scratch0)) (w : S80x128.Idx → F .f32)
    (hw : w = ReadAs.same.apply (View.read (Elt F) (xV.slice (Rect.unit (s := S80x500000) off S80x128.size inb) (fun _ => rfl)).view f0)) :
    (iprop((a5.view.loc (VT d L) ↦[a5.view.set]{fullShare} a5.view.writes (Elt F) g [⟨Rect.whole S80x128, w⟩])
        ∗ (xV.view.loc (VT d L) ↦[(xV.slice (Rect.unit (s := S80x500000) off S80x128.size inb) (fun _ => rfl)).view.set]{q} f0)) : sProp 𝕄)
      ⊢ iprop((a5.view.loc (VT d L) ↦[a5.view.set]{fullShare} xbuf f0 (colBase L n)) ∗ (xV.view.loc (VT d L) ↦[(xsl L n).view.set]{q} f0)) := by
  subst h hw
  refine Entails.of_eq (congrArg (fun x => iprop(x ∗ _)) <| pointsTo_congr fun i _ => ?_)
  have hb := colBase_le L n
  have e := congrFun (View.read_writes_whole (Val := Elt F) a5.view g
    (ReadAs.same.apply (View.read (Elt F) (xsl L n).view f0))) i
  refine e.trans (congrArg f0 (funext fun a => Fin.ext ?_))
  have h1 : (i 1).val < 128 := (i 1).isLt
  match a with
  | 0 => show 0 + 1 * (i 0).val = (i 0).val; omega
  | 1 => show colBase L n + 1 * (i 1).val = (colBase L n + (i 1).val) % 500000; omega

/-- The same for the second score buffer. -/
theorem land_a6 (d : Dev nD) {L : grid0.Coords} {n : ℕ} {off : Fin 2 → ℕ} (h : off = ![0, colBase L n]) (inb : ∀ a, off a + S80x128.size a ≤ S80x500000.size a)
    (f0 : Buf (Elt F) ((VT d L).loc main_v0_scv)) (g : Buf (Elt F) ((VT d L).loc cc0_scratch1)) (w : S80x128.Idx → F .f32)
    (hw : w = ReadAs.same.apply (View.read (Elt F) (xV.slice (Rect.unit (s := S80x500000) off S80x128.size inb) (fun _ => rfl)).view f0)) :
    ((a6.view.loc (VT d L) ↦[a6.view.set]{fullShare} a6.view.writes (Elt F) g [⟨Rect.whole S80x128, w⟩]) : sProp 𝕄)
      ⊢ (a6.view.loc (VT d L) ↦[a6.view.set]{fullShare} xbuf f0 (colBase L n)) := by
  subst h hw
  refine Entails.of_eq (pointsTo_congr fun i _ => ?_)
  have hb := colBase_le L n
  have e := congrFun (View.read_writes_whole (Val := Elt F) a6.view g
    (ReadAs.same.apply (View.read (Elt F) (xsl L n).view f0))) i
  refine e.trans (congrArg f0 (funext fun a => Fin.ext ?_))
  have h1 : (i 1).val < 128 := (i 1).isLt
  match a with
  | 0 => show 0 + 1 * (i 0).val = (i 0).val; omega
  | 1 => show colBase L n + 1 * (i 1).val = (colBase L n + (i 1).val) % 500000; omega

section
variable [FloatOps F]

/-- The class of column `j` of a chunk's buffer is the class of that column of the scores. -/
theorem bufClass_xbuf (f0 : S80x500000.Idx → F .f32) (t : F .f32) (L : grid0.Coords) (n : ℕ) (j : S128.Idx) (i : S196608.Idx)
    (hi : (i 0).val = colBase L n + (j 0).val) : bufClass (xbuf f0 (colBase L n)) t j = outF f0 t i := by
  have hb := colBase_le L n
  have hj : (j 0).val < 128 := (j 0).isLt
  unfold bufClass outF
  refine congrArg (fun v => scClass v t) (funext fun c => congrArg f0 (funext fun a => Fin.ext ?_))
  match a with
  | 0 => rfl
  | 1 => show (colBase L n + (j 0).val % 128) % 500000 = (i 0).val % 500000; rw [hi, Nat.mod_eq_of_lt hj]

/-- A chunk of the result, its classes copied into it. -/
theorem land_o (d : Dev nD) {L : grid0.Coords} {n : ℕ} {off : Fin 1 → ℕ} (h : off = ![colBase L n]) (inb : ∀ a, off a + S128.size a ≤ S196608.size a)
    (f0 : S80x500000.Idx → F .f32) (t : F .f32) (g : Buf (Elt F) ((VT d L).loc main_v2_scv)) (w : S128.Idx → BitVec 32)
    (hw : w = bufClass (xbuf f0 (colBase L n)) t) :
    (((oV.slice (Rect.unit (s := S196608) off S128.size inb) (fun _ => rfl)).view.loc (VT d L) ↦[(oV.slice (Rect.unit (s := S196608) off S128.size inb) (fun _ => rfl)).view.set]{fullShare}
        (oV.slice (Rect.unit (s := S196608) off S128.size inb) (fun _ => rfl)).view.writes (Elt F) g [⟨Rect.whole S128, w⟩]) : sProp 𝕄)
      ⊢ (oV.view.loc (VT d L) ↦[(osl L n).view.set]{fullShare} outF f0 t) := by
  subst h hw
  refine Entails.of_eq (pointsTo_congr fun i hi => ?_)
  obtain ⟨h1, h2⟩ := (mem_osl i).mp hi
  let j : S128.Idx := fun a => match a with
    | 0 => ⟨(i 0).val - colBase L n, by show _ < 128; omega⟩
  have hj : (osl L n).view.emb j = i := funext fun a => Fin.ext (by
    match a with
    | 0 => show colBase L n + 1 * ((i 0).val - colBase L n) = (i 0).val; omega)
  have e := congrFun (View.read_writes_whole (Val := Elt F) (osl L n).view g (bufClass (xbuf f0 (colBase L n)) t)) j
  refine Eq.trans ?_ (e.trans (bufClass_xbuf f0 t L n j i (show _ = colBase L n + ((i 0).val - colBase L n) by omega)))
  exact congrArg _ hj.symm

end

end Cert.Proof
-- ==== Proof.Trip.lean ====
module

public import proofs.«01_k».proof.Proof.GroupA
public import proofs.«01_k».proof.Proof.GroupB
public import proofs.«01_k».proof.Proof.Chunks

/-! # One trip of the tile's outer loop: two chunks, double-buffered

At the head of trip `m` the copy of chunk `2 m` into the first score buffer is in flight, and so are the copies out of
the classes of chunks `2 m - 2` and `2 m - 1` (from the second trip on). -/

@[expose] public section

set_option maxRecDepth 65536
set_option maxHeartbeats 0

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The DMA semaphore numbered `k`. -/
abbrev csem (k : Nat) (hk : k < 10 := by decide) : DmaSem sig := ⟨k, hk⟩

/-- Chunk `n` of the result, at `f`. -/
abbrev oPts (d : Dev nD) (L : grid0.Coords) (n : ℕ) (f : Buf (Elt F) ((VT d L).loc main_v2_scv)) : sProp 𝕄 :=
  oV.view.loc (VT d L) ↦[(osl L n).view.set]{fullShare} f

/-- A chunk spelt as the program slices it. -/
theorem oPts_eq (d : Dev nD) {L : grid0.Coords} {n : ℕ} {off : Fin 1 → ℕ} (h : off = ![colBase L n]) (inb : ∀ a, off a + S128.size a ≤ S196608.size a)
    (f : Buf (Elt F) ((VT d L).loc main_v2_scv)) :
    oPts d L n f = ((oV.slice (Rect.unit (s := S196608) off S128.size inb) (fun _ => rfl)).view.loc (VT d L) ↦[(oV.slice (Rect.unit (s := S196608) off S128.size inb) (fun _ => rfl)).view.set]{fullShare} f : sProp 𝕄) := by
  subst h; rfl

/-- The scores beside a chunk, spelt as the program slices it. -/
theorem xRest_eq (d : Dev nD) {L : grid0.Coords} {n : ℕ} {off : Fin 2 → ℕ} (h : off = ![0, colBase L n]) (inb : ∀ a, off a + S80x128.size a ≤ S80x500000.size a)
    (q : PosShare TreeShare) (f : Buf (Elt F) ((VT d L).loc main_v0_scv)) :
    (xV.view.loc (VT d L) ↦[Finset.univ \ (xsl L n).view.set]{q} f : sProp 𝕄)
      = (xV.view.loc (VT d L) ↦[Finset.univ \ (xV.slice (Rect.unit (s := S80x500000) off S80x128.size inb) (fun _ => rfl)).view.set]{q} f : sProp 𝕄) := by
  subst h; rfl

section
variable (d : Dev nD) (L : grid0.Coords) (q : PosShare TreeShare) (f0 : Buf (Elt F) ((VT d L).loc main_v0_scv)) (t : F .f32)
  (fo : Buf (Elt F) ((VT d L).loc main_v2_scv)) (O : CellTallies nD τ sig (HIx 1))

/-- The copy of chunk `n` into the first score buffer in flight. -/
def inFl (n : ℕ) : sProp 𝕄 := iprop(
  Transfers.Flight countersEmb (VT d L) (SemLoc.dma (csem 0)) (default : HIx 1) 327680
      iprop((a5.view.loc (VT d L) ↦[a5.view.set]{fullShare} xbuf f0 (colBase L n)) ∗ (xV.view.loc (VT d L) ↦[(xsl L n).view.set]{Transfers.shareTokN q 0} f0))
    ∗ (xV.view.loc (VT d L) ↦[Finset.univ \ (xsl L n).view.set]{Transfers.shareTokN q 0} f0))

/-- The copies out of chunk `n`'s classes from the first, or the second, result buffer in flight. -/
def outFlA (n : ℕ) : sProp 𝕄 :=
  Transfers.Flight countersEmb (VT d L) (SemLoc.dma (csem 2)) (default : HIx 1) 4096
      iprop((oPts d L n (outF f0 t)) ∗ (a7.view.loc (VT d L) ↦[a7.view.set]{fullShare} bufClass (xbuf f0 (colBase L n)) t))
def outFlB (n : ℕ) : sProp 𝕄 :=
  Transfers.Flight countersEmb (VT d L) (SemLoc.dma (csem 3)) (default : HIx 1) 4096
      iprop((oPts d L n (outF f0 t)) ∗ (a8.view.loc (VT d L) ↦[a8.view.set]{fullShare} bufClass (xbuf f0 (colBase L n)) t))

/-- The first score buffer at the head of trip `m`; the two result buffers; the chunks written back. -/
def inSt (m : ℕ) : sProp 𝕄 := if m < 24 then inFl d L q f0 (2 * m) else
  iprop(semVal (VT d L, SemLoc.dma (csem 0)) 0 ∗ (∃ f, a5.view.loc (VT d L) ↦[a5.view.set]{fullShare} f)
    ∗ (xV.view.loc (VT d L) ↦{Transfers.shareTokN q 0} f0))
def outSt : ℕ → sProp 𝕄
  | 0 => iprop(semVal (VT d L, SemLoc.dma (csem 2)) 0 ∗ (∃ f, a7.view.loc (VT d L) ↦[a7.view.set]{fullShare} f)
      ∗ semVal (VT d L, SemLoc.dma (csem 3)) 0 ∗ (∃ f, a8.view.loc (VT d L) ↦[a8.view.set]{fullShare} f))
  | n + 1 => iprop(outFlA d L f0 t (2 * n) ∗ outFlB d L f0 t (2 * n + 1) ∗ bigSep (Finset.range (2 * n)) fun n => oPts d L n (outF f0 t))

/-- What the tile holds at the head of trip `m`. -/
def tripInv (m : ℕ) (_ : Unit) : sProp 𝕄 := iprop(Transfers.MayWaits (VT d L) (default : HIx 1) O ∗ inSt d L q f0 m
  ∗ (∃ f, a6.view.loc (VT d L) ↦[a6.view.set]{fullShare} f) ∗ semVal (VT d L, SemLoc.dma (csem 1)) 0
  ∗ (xV.view.loc (VT d L) ↦{Transfers.shareTokN q 1} f0)
  ∗ outSt d L f0 t m
  ∗ (bigSep (Finset.Ico (2 * m) 48) fun n => oPts d L n fo)
  ∗ ∃ W', owes (VT d L) O W')

end

omit [FloatOps F] in
/-- The next two members of an interval's family. -/
theorem todo_step (Φ : ℕ → sProp 𝕄) {m : ℕ} (hm : m < 24) :
    bigSep (Finset.Ico (2 * m) 48) Φ = iprop(Φ (2 * m) ∗ Φ (2 * m + 1) ∗ bigSep (Finset.Ico (2 * (m + 1)) 48) Φ) := by
  rw [show Finset.Ico (2 * m) 48 = insert (2 * m) (insert (2 * m + 1) (Finset.Ico (2 * (m + 1)) 48)) from by
      ext x; simp only [Finset.mem_insert, Finset.mem_Ico]; omega,
    BI.bigSep_insert (by simp only [Finset.mem_insert, Finset.mem_Ico]; omega), BI.bigSep_insert (by simp only [Finset.mem_Ico]; omega)]
  rfl
omit [FloatOps F] in
theorem done_step (Φ : ℕ → sProp 𝕄) (n : ℕ) :
    iprop(Φ (2 * n) ∗ Φ (2 * n + 1) ∗ bigSep (Finset.range (2 * n)) Φ) = bigSep (Finset.range (2 * (n + 1))) Φ := by
  rw [show Finset.range (2 * (n + 1)) = insert (2 * n) (insert (2 * n + 1) (Finset.range (2 * n))) from by
      ext x; simp only [Finset.mem_insert, Finset.mem_range]; omega,
    BI.bigSep_insert (by simp only [Finset.mem_insert, Finset.mem_range]; omega), BI.bigSep_insert (by simp only [Finset.mem_range]; omega)]
  rfl

/-- All eight groups done, the buffer holds the classes. -/
theorem upTo_all (f : S80x128.Idx → F .f32) (t : F .f32) (o : S128.Idx → BitVec 32) {n : ℕ} (hn : n = 8) : upTo f t o (16 * n) = bufClass f t := by
  subst hn
  funext i
  exact if_pos (show (i 0).val < 128 from (i 0).isLt)
theorem upTo_none (f : S80x128.Idx → F .f32) (t : F .f32) (o : S128.Idx → BitVec 32) : upTo f t o (16 * 0) = o := by
  funext i
  exact if_neg (by omega)

/-- After the trip's request for chunk `2 k + 2`, made in all trips but the last: the first score buffer at the head of the next. -/
theorem in_next (d : Dev nD) (L : grid0.Coords) (q : PosShare TreeShare) (f0 : Buf (Elt F) ((VT d L).loc main_v0_scv)) (k : Fin (k0_t1_loop L).trips)
    (hc3 : k0_cond3 L k = 1#1) (g : Buf (Elt F) ((VT d L).loc cc0_scratch0)) (w : k0_cond4 L k = 1#1 → S80x128.Idx → F .f32)
    (hw : ∀ hc, w hc = ReadAs.same.apply (View.read (Elt F) (xV.slice (Rect.unit (s := S80x500000) (k0_off85 L k) S80x128.size (k0_off85_inb L k hc3 hc)) (fun _ => rfl)).view f0)) :
    (iprop((xV.view.loc (VT d L) ↦[Finset.univ \ gset (k0_cond4 L k = 1#1) fun hc =>
          (xV.slice (Rect.unit (s := S80x500000) (k0_off85 L k) S80x128.size (k0_off85_inb L k hc3 hc)) (fun _ => rfl)).view.set]{Transfers.shareTokN q 0} f0)
        ∗ Guarded (k0_cond4 L k = 1#1) (fun hc => Transfers.Flight countersEmb (VT d L) (SemLoc.dma (csem 0)) (default : HIx 1) 327680
            iprop((a5.view.loc (VT d L) ↦[a5.view.set]{fullShare} a5.view.writes (Elt F) g [⟨Rect.whole S80x128, w hc⟩])
              ∗ (xV.view.loc (VT d L) ↦[(xV.slice (Rect.unit (s := S80x500000) (k0_off85 L k) S80x128.size (k0_off85_inb L k hc3 hc)) (fun _ => rfl)).view.set]{Transfers.shareTokN q 0} f0)))
          (fun _ => iprop(semVal (VT d L, SemLoc.dma (csem 0)) 0 ∗ (a5.view.loc (VT d L) ↦[a5.view.set]{fullShare} g)))) : sProp 𝕄)
      ⊢ inSt d L q f0 (k.val + 1) := by
  unfold inSt Guarded gset inFl
  by_cases h : k0_cond4 L k = 1#1
  · have hk := (cond4_iff L k).mp h
    rw [dif_pos h, dif_pos h, if_pos (by omega)]
    iintro ⟨Hx, Hf⟩
    isplitl [Hf]
    · iapply (Transfers.Flight_mono countersEmb (VT d L) (land_a5 d (off85_col L k hk) (k0_off85_inb L k hc3 h) (Transfers.shareTokN q 0) f0 g (w h) (hw h)))
      iexact Hf
    · iapply (Entails.of_eq (xRest_eq d (off85_col L k hk) (k0_off85_inb L k hc3 h) (Transfers.shareTokN q 0) f0).symm)
      iexact Hx
  · have hk := mt (cond4_iff L k).mpr h
    rw [dif_neg h, dif_neg h, if_neg (by omega), Finset.sdiff_empty]
    iintro ⟨Hx, Hs, H5⟩
    isplitl [Hs]; · iexact Hs
    isplitl [H5]; · iexists _; iexact H5
    iexact Hx

/-- One trip. -/
theorem trip (d : Dev nD) (L : grid0.Coords) (q : PosShare TreeShare) (f0 : Buf (Elt F) ((VT d L).loc main_v0_scv)) {v2 : Vec F S16 .f32} {t : F .f32} (hv2 : ∀ x, v2 x = t)
    (fo : Buf (Elt F) ((VT d L).loc main_v2_scv)) (O : CellTallies nD τ sig (HIx 1)) (k : Fin (k0_t1_loop L).trips) :
    tripInv d L q f0 t fo O k.val ⟨⟩
      ⊢ (wp frame (wpE (defs₀ (F := F)) 𝒱₀ (VT d L) none) Set.univ
          (k0_t1_body L xV (Memref.isWhole_whole _) tV (Memref.isWhole_whole _) oV (Memref.isWhole_whole _) a5 (Memref.isWhole_whole _)
            a6 (Memref.isWhole_whole _) a7 (Memref.isWhole_whole _) a8 (Memref.isWhole_whole _) a9 (Memref.isWhole_whole _)
            cc0_scratch5 cc0_scratch6 cc0_scratch7 cc0_scratch8 cc0_scoped0 v2 k ⟨⟩)
          fun _ => tripInv d L q f0 t fo O (k.val + 1) ⟨⟩ : sProp 𝕄) := by
  have hk : k.val < 24 := trip_lt k
  have hc1 := cond1_true L k
  have hc3 := cond3_true L k
  have hp := past_first ⟨k.val, hk⟩
  unfold tripInv
  rw [todo_step _ hk, show inSt d L q f0 k.val = inFl d L q f0 (2 * k.val) from if_pos hk,
    oPts_eq d (off84_col L k) (k0_off84_inb L k), oPts_eq d (off167_col L k) (k0_off167_inb L k hc3)]
  have hcase : k.val = 0 ∨ ∃ n, k.val = n + 1 := by
    rcases k.val with _ | n
    · exact .inl rfl
    · exact .inr ⟨n, rfl⟩
  rw [show outSt d L f0 t (k.val + 1) = iprop(outFlA d L f0 t (2 * k.val) ∗ outFlB d L f0 t (2 * k.val + 1)
    ∗ bigSep (Finset.range (2 * k.val)) fun n => oPts d L n (outF f0 t)) from rfl]
  rcases hcase with h0 | ⟨n, hn⟩
  · have hp' : ¬ _ := fun h => absurd (hp.mp h) (by show ¬ 0 < k.val; omega)
    rw [show outSt d L f0 t k.val = iprop(semVal (VT d L, SemLoc.dma (csem 2)) 0 ∗ (∃ f, a7.view.loc (VT d L) ↦[a7.view.set]{fullShare} f)
      ∗ semVal (VT d L, SemLoc.dma (csem 3)) 0 ∗ (∃ f, a8.view.loc (VT d L) ↦[a8.view.set]{fullShare} f)) by rw [h0]; rfl]
    unfold inFl
    iintro ⟨#Hmw, ⟨Hs0, Hx0⟩, ⟨%f6, H6⟩, Hs1, Hx1, ⟨Hs2, ⟨%f7, H7⟩, Hs3, ⟨%f8, H8⟩⟩, ⟨Ho0, Ho1, Htd⟩, %W', HO⟩
    unfold k0_t1_body
    sl_exec
    sl_for (fun (g : Nat) _ => iprop((a5.view.loc (VT d L) ↦[a5.view.set]{fullShare} xbuf f0 (colBase L (2 * k.val)))
      ∗ (a7.view.loc (VT d L) ↦[a7.view.set]{fullShare} upTo (xbuf f0 (colBase L (2 * k.val))) t f7 (16 * g)))) $$ [Hs0_dst H7]
    case region =>
      intro g _
      exact groupA d L hv2 g _ _ _ rfl
    · rw [upTo_none]; isplitl [Hs0_dst] <;> iassumption
    iintro %_ ⟨H5, H7⟩
    rw [upTo_all _ _ _ (by decide +kernel)]
    sl_exec
    ihave H6 := (land_a6 d (off2_col L k) (k0_off2_inb L k hc1) f0 _ (trip.sl.dma0 d L f0 k hc1) rfl) $$ H6
    sl_for (fun (g : Nat) _ => iprop((a6.view.loc (VT d L) ↦[a6.view.set]{fullShare} xbuf f0 (colBase L (2 * k.val + 1)))
      ∗ (a8.view.loc (VT d L) ↦[a8.view.set]{fullShare} upTo (xbuf f0 (colBase L (2 * k.val + 1))) t f8 (16 * g)))) $$ [H6 H8]
    case region =>
      intro g _
      exact groupB d L hv2 k hc3 g _ _ _ rfl
    · rw [upTo_none]; isplitl [H6] <;> iassumption
    iintro %_ ⟨H6, H8⟩
    rw [upTo_all _ _ _ (by decide +kernel)]
    sl_exec
    sl_step
    isplitr; · iexact Hmw
    isplitl [Hx0 if1]
    · iapply (in_next d L q f0 k hc3 _ (trip.sl.dma0_2 d L f0 k hc3) (fun _ => rfl))
      isplitl [Hx0] <;> iassumption
    isplitl [H6]; · iexists _; iexact H6
    isplitl [Hs1]; · iexact Hs1
    isplitl [Hx1]; · iexact Hx1
    isplitl [Hs2 Hs3]
    · isplitl [Hs2]
      · unfold outFlA
        iapply (Transfers.Flight_mono countersEmb (VT d L) (sep_mono_left (land_o d (off84_col L k) (k0_off84_inb L k) f0 t fo (trip.sl.dma0_1 d L f0 k) rfl)))
        iexact Hs2
      isplitl [Hs3]
      · unfold outFlB
        iapply (Transfers.Flight_mono countersEmb (VT d L) (sep_mono_left (land_o d (off167_col L k) (k0_off167_inb L k hc3) f0 t fo (trip.sl.dma0_3 d L f0 k) rfl)))
        iexact Hs3
      · rw [h0, show Finset.range (2 * 0) = ∅ from rfl, BI.bigSep_empty]
        iempintro
    isplitl [Htd]; · iexact Htd
    iexists _; iexact HO
  · have hp' := hp.mpr (show 0 < k.val by omega)
    rw [show outSt d L f0 t k.val = iprop(outFlA d L f0 t (2 * n) ∗ outFlB d L f0 t (2 * n + 1)
      ∗ bigSep (Finset.range (2 * n)) fun n => oPts d L n (outF f0 t)) by rw [hn]; rfl]
    unfold inFl outFlA outFlB
    iintro ⟨#Hmw, ⟨Hs0, Hx0⟩, ⟨%f6, H6⟩, Hs1, Hx1, ⟨Hs2, Hs3, Hdn⟩, ⟨Ho0, Ho1, Htd⟩, %W', HO⟩
    unfold k0_t1_body
    sl_exec
    sl_for (fun (g : Nat) _ => iprop((a5.view.loc (VT d L) ↦[a5.view.set]{fullShare} xbuf f0 (colBase L (2 * k.val)))
      ∗ (a7.view.loc (VT d L) ↦[a7.view.set]{fullShare} upTo (xbuf f0 (colBase L (2 * k.val))) t (bufClass (xbuf f0 (colBase L (2 * n))) t) (16 * g)))) $$ [Hs0_dst Hs2_src]
    case region =>
      intro g _
      exact groupA d L hv2 g _ _ _ rfl
    · rw [upTo_none]; isplitl [Hs0_dst] <;> iassumption
    iintro %_ ⟨H5, H7⟩
    rw [upTo_all _ _ _ (by decide +kernel)]
    sl_exec
    ihave H6 := (land_a6 d (off2_col L k) (k0_off2_inb L k hc1) f0 _ (trip.sl.dma0_4 d L f0 k hc1) rfl) $$ H6
    sl_for (fun (g : Nat) _ => iprop((a6.view.loc (VT d L) ↦[a6.view.set]{fullShare} xbuf f0 (colBase L (2 * k.val + 1)))
      ∗ (a8.view.loc (VT d L) ↦[a8.view.set]{fullShare} upTo (xbuf f0 (colBase L (2 * k.val + 1))) t (bufClass (xbuf f0 (colBase L (2 * n + 1))) t) (16 * g)))) $$ [H6 Hs3_src]
    case region =>
      intro g _
      exact groupB d L hv2 k hc3 g _ _ _ rfl
    · rw [upTo_none]; isplitl [H6] <;> iassumption
    iintro %_ ⟨H6, H8⟩
    rw [upTo_all _ _ _ (by decide +kernel)]
    sl_exec
    sl_step
    isplitr; · iexact Hmw
    isplitl [Hx0 if1]
    · iapply (in_next d L q f0 k hc3 _ (trip.sl.dma0_6 d L f0 k hc3) (fun _ => rfl))
      isplitl [Hx0] <;> iassumption
    isplitl [H6]; · iexists _; iexact H6
    isplitl [Hs1]; · iexact Hs1
    isplitl [Hx1]; · iexact Hx1
    isplitl [Hs2 Hs3 Hdn Hs2_dst Hs3_dst]
    · isplitl [Hs2]
      · iapply (Transfers.Flight_mono countersEmb (VT d L) (sep_mono_left (land_o d (off84_col L k) (k0_off84_inb L k) f0 t fo (trip.sl.dma0_5 d L f0 k) rfl)))
        iexact Hs2
      isplitl [Hs3]
      · iapply (Transfers.Flight_mono countersEmb (VT d L) (sep_mono_left (land_o d (off167_col L k) (k0_off167_inb L k hc3) f0 t fo (trip.sl.dma0_7 d L f0 k) rfl)))
        iexact Hs3
      · rw [hn, ← done_step (fun n => oPts d L n (outF f0 t)) n]
        isplitl [Hs2_dst]; · iexact Hs2_dst
        isplitl [Hs3_dst] <;> iassumption
    isplitl [Htd]; · iexact Htd
    iexists _; iexact HO

end Cert.Proof
-- ==== Proof.Tile.lean ====
module

public import proofs.«01_k».proof.Proof.Trip

/-! # A tile's whole run -/

@[expose] public section

set_option maxRecDepth 65536
set_option maxHeartbeats 0

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- What a tile holds beside the arrays: its five buffers, at anything, and its five semaphores at zero. -/
def tileOwn (d : Dev nD) (L : grid0.Coords) : sProp 𝕄 := iprop(
  (∃ f, a5.view.loc (VT d L) ↦[a5.view.set]{fullShare} f) ∗ (∃ f, a6.view.loc (VT d L) ↦[a6.view.set]{fullShare} f)
  ∗ (∃ f, a7.view.loc (VT d L) ↦[a7.view.set]{fullShare} f) ∗ (∃ f, a8.view.loc (VT d L) ↦[a8.view.set]{fullShare} f)
  ∗ (∃ f, a9.view.loc (VT d L) ↦[a9.view.set]{fullShare} f)
  ∗ semVal (VT d L, SemLoc.dma (csem 0)) 0 ∗ semVal (VT d L, SemLoc.dma (csem 1)) 0 ∗ semVal (VT d L, SemLoc.dma (csem 2)) 0
  ∗ semVal (VT d L, SemLoc.dma (csem 3)) 0 ∗ semVal (VT d L, SemLoc.dma (csem 4)) 0)

theorem tile_run (d : Dev nD) (L : grid0.Coords) (q : PosShare TreeShare) (f0 : Buf (Elt F) ((VT d L).loc main_v0_scv))
    (f1 : Buf (Elt F) ((VT d L).loc main_v1_scv)) (t : F .f32) (hf1 : ∀ i, f1 i = t) (fo : Buf (Elt F) ((VT d L).loc main_v2_scv))
    (O : CellTallies nD τ sig (HIx 1)) (W : Waits sig (HIx 1)) :
    iprop(Transfers.MayWaits (VT d L) (default : HIx 1) O ∗ (xV.view.loc (VT d L) ↦{Transfers.shareTokN q 0} f0) ∗ (xV.view.loc (VT d L) ↦{Transfers.shareTokN q 1} f0)
      ∗ (tV.view.loc (VT d L) ↦{q} f1) ∗ (bigSep (Finset.range 48) fun n => oPts d L n fo) ∗ tileOwn d L ∗ owes (VT d L) O W)
      ⊢ (wp frame (wpE (defs₀ (F := F)) 𝒱₀ (VT d L) none) Set.univ
          (cc0__sc_body L xV (Memref.isWhole_whole _) tV (Memref.isWhole_whole _) oV (Memref.isWhole_whole _) a5 (Memref.isWhole_whole _)
            a6 (Memref.isWhole_whole _) a7 (Memref.isWhole_whole _) a8 (Memref.isWhole_whole _) a9 (Memref.isWhole_whole _)
            cc0_scratch5 cc0_scratch6 cc0_scratch7 cc0_scratch8 cc0_scoped0)
          fun _ => iprop((xV.view.loc (VT d L) ↦{Transfers.shareTokN q 0} f0) ∗ (xV.view.loc (VT d L) ↦{Transfers.shareTokN q 1} f0)
            ∗ (tV.view.loc (VT d L) ↦{q} f1) ∗ (bigSep (Finset.range 48) fun n => oPts d L n (outF f0 t)) ∗ tileOwn d L
            ∗ ∃ W', owes (VT d L) O W') : sProp 𝕄) := by
  unfold tileOwn
  iintro ⟨#Hmw, Hx0, Hx1, Ht, Ho, ⟨⟨%f5, H5⟩, ⟨%f6, H6⟩, ⟨%f7, H7⟩, ⟨%f8, H8⟩, ⟨%f9, H9⟩, Hs0, Hs1, Hs2, Hs3, Hs4⟩, HO⟩
  rw [cc0__sc_body_eq_skeleton]
  unfold cc0__sc_body_skel
  sl_exec
  have hv2 : ∀ x, tile_run.sl.v2 d L f1 x = t := by
    intro x
    delta tile_run.sl.v2 tile_run.sl.dma0
    obtain ⟨y, hy⟩ : ∃ y, a9.view.readCov [⟨Rect.whole S16, ReadAs.same.apply (View.read (Elt F) tV.view f1)⟩]
      (Rect.unit (s := S16) ![0] S16.size inb_S16_S16_0).toLoadRect x = ReadAs.same.apply (View.read (Elt F) tV.view f1) y :=
      ⟨_, congrFun (View.read_writes_whole (Val := Elt F) a9.view a9.view.junk (ReadAs.same.apply (View.read (Elt F) tV.view f1))) _⟩
    exact hy.trans (hf1 _)
  sl_for (tripInv d L q f0 t fo O) $$ [Hs0 Hx0 H6 Hs1 Hx1 Hs2 H7 Hs3 H8 Ho HO]
  case region =>
    intro k _
    exact trip d L q f0 hv2 fo O k
  · unfold tripInv
    rw [show inSt d L q f0 0 = inFl d L q f0 0 from rfl, show outSt d L f0 t 0 = iprop(semVal (VT d L, SemLoc.dma (csem 2)) 0 ∗ (∃ f, a7.view.loc (VT d L) ↦[a7.view.set]{fullShare} f)
      ∗ semVal (VT d L, SemLoc.dma (csem 3)) 0 ∗ (∃ f, a8.view.loc (VT d L) ↦[a8.view.set]{fullShare} f)) from rfl]
    isplitr; · iexact Hmw
    isplitl [Hs0 Hx0]
    · unfold inFl
      isplitl [Hs0]
      · iapply (Transfers.Flight_mono countersEmb (VT d L) (land_a5 d (off1_col L) (k0_off1_inb L) (Transfers.shareTokN q 0) f0 _ (tile_run.sl.dma1 d L f0) rfl))
        iexact Hs0
      · iapply (Entails.of_eq (xRest_eq d (off1_col L) (k0_off1_inb L) (Transfers.shareTokN q 0) f0).symm)
        iexact Hx0
    isplitl [H6]; · iexists _; iexact H6
    isplitl [Hs1]; · iexact Hs1
    isplitl [Hx1]; · iexact Hx1
    isplitl [Hs2 H7 Hs3 H8]
    · isplitl [Hs2]; · iexact Hs2
      isplitl [H7]; · iexists _; iexact H7
      isplitl [Hs3]; · iexact Hs3
      iexists _; iexact H8
    isplitl [Ho]
    · iexact Ho
    iexists _; iexact HO
  iintro %_ HI
  rw [show Scf.trips (k0_t1_loop L).lb (k0_t1_loop L).ub (k0_t1_loop L).st = 24 from trips_eq L]
  unfold tripInv
  rw [show inSt d L q f0 24 = iprop(semVal (VT d L, SemLoc.dma (csem 0)) 0 ∗ (∃ f, a5.view.loc (VT d L) ↦[a5.view.set]{fullShare} f)
    ∗ (xV.view.loc (VT d L) ↦{Transfers.shareTokN q 0} f0)) from rfl, show outSt d L f0 t 24 = iprop(outFlA d L f0 t (2 * 23) ∗ outFlB d L f0 t (2 * 23 + 1)
    ∗ bigSep (Finset.range (2 * 23)) fun n => oPts d L n (outF f0 t)) from rfl]
  unfold outFlA outFlB
  icases HI with ⟨-, ⟨Hs0, ⟨%f5, H5⟩, Hx0⟩, ⟨%f6, H6⟩, Hs1, Hx1, ⟨Hs2, Hs3, Hdn⟩, -, %W', HO⟩
  have h4 : (k0_t4_loop L).trips = 0 := Nat.le_zero.mp (k0_t4_abs L).2.1
  sl_exec
  sl_step
  isplitl [Hx0]; · iexact Hx0
  isplitl [Hx1]; · iexact Hx1
  isplitl [Ht]; · iexact Ht
  isplitl [Hdn Hs2_dst Hs3_dst]
  · rw [show (48 : ℕ) = 2 * (23 + 1) from rfl, ← done_step (fun n => oPts d L n (outF f0 t)) 23]
    isplitl [Hs2_dst]; · iexact Hs2_dst
    isplitl [Hs3_dst] <;> iassumption
  isplitr [HO]
  · isplitl [H5]; · iexists _; iexact H5
    isplitl [H6]; · iexists _; iexact H6
    isplitl [Hs2_src]; · iexists _; iexact Hs2_src
    isplitl [Hs3_src]; · iexists _; iexact Hs3_src
    isplitl [H9]; · iexists _; iexact H9
    isplitl [Hs0]; · iexact Hs0
    isplitl [Hs1]; · iexact Hs1
    isplitl [Hs2]; · iexact Hs2
    isplitl [Hs3]; · iexact Hs3
    iexact Hs4
  iexists _; iexact HO

end Cert.Proof
-- ==== Proof.Launch.lean ====
module

public import proofs.«01_k».proof.Proof.Tile
public import Idealize.ShloMosaic.Lib.ShareLeaves

/-! # The SparseCore call: what each tile is handed and what it hands back -/

@[expose] public section

set_option maxRecDepth 65536
set_option maxHeartbeats 0

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Tactic

variable {F : FTy → Type} [FloatOps F]

local notation "𝕄" => MT nD τ sig (HIx 1) (Elt F) ℕ UU ℕ

/-! ## The arrays and their contents at the call -/

/-- The arrays of @main, on device `d`: the scores, the threshold, the scores transposed, the threshold's sixteen
    copies, the SparseCores' part of the result, the TensorCore's one-element threshold, its part, the result. -/
abbrev a0Loc (d : Dev nD) : Loc nD τ sig := (SparseCore.T d).loc main_arg0
abbrev a1Loc (d : Dev nD) : Loc nD τ sig := (SparseCore.T d).loc main_arg1
abbrev xLoc (d : Dev nD) : Loc nD τ sig := (SparseCore.T d).loc main_v0
abbrev tLoc (d : Dev nD) : Loc nD τ sig := (SparseCore.T d).loc main_v1
abbrev oLoc (d : Dev nD) : Loc nD τ sig := (SparseCore.T d).loc main_v2
abbrev sLoc (d : Dev nD) : Loc nD τ sig := (SparseCore.T d).loc main_v3
abbrev pLoc (d : Dev nD) : Loc nD τ sig := (SparseCore.T d).loc main_v4
abbrev rLoc (d : Dev nD) : Loc nD τ sig := (SparseCore.T d).loc main_v5

variable (m : (ℓ : Loc nD τ sig) → Buf (Elt F) ℓ)

/-- The scores transposed. -/
def xT (d : Dev nD) : S80x500000.Idx → F .f32 := transpose S80x500000 [1, 0] (m (a0Loc d)) transposes_S500000x80_S80x500000_1_0
/-- The threshold. -/
def tS (d : Dev nD) : F .f32 := (m (a1Loc d) : S_.Idx → F .f32) fun a => a.elim0
/-- Sixteen copies of the threshold. -/
def tB (d : Dev nD) : S16.Idx → F .f32 := broadcastInDim S16 ![] bcast_S_S16 (m (a1Loc d))

theorem tB_apply (d : Dev nD) (i : S16.Idx) : tB m d i = tS m d := by
  unfold tB tS broadcastInDim
  exact congrArg (m (a1Loc d) : S_.Idx → F .f32) (funext fun a => a.elim0)

/-- The tile at SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The share of the two read arrays that the tile at `(c, s)` gets: one of thirty-two equal leaves. -/
def tq (c : Fin (2 ^ 1)) (s : Fin (2 ^ 4)) : PosShare TreeShare := leaf 4 (leaf 1 fullShare c) s
abbrev tqL (L : grid0.Coords) : PosShare TreeShare := tq (Fin.cast rfl (L 0)) (Fin.cast rfl (L 1))

/-- What a tile is handed: its shares of the transposed scores and of the threshold's copies, and its forty-eight
    pieces of the result at `f`. -/
def tileHas (d : Dev nD) (f : S196608.Idx → BitVec 32) (L : grid0.Coords) : sProp 𝕄 := iprop(
  (xLoc d ↦{tqL L} xT m d) ∗ (tLoc d ↦{tqL L} tB m d) ∗ bigSep (Finset.range 48) fun n => oPts (F := F) d L n f)

instance tileHas_storable (d : Dev nD) (f : S196608.Idx → BitVec 32) (L : grid0.Coords) :
    BI.Storable (upEmb : UEmb _ 𝕄) (tileHas m d f L) := by
  unfold tileHas; infer_instance

/-- The SparseCores' part of the result before the call. -/
def o0 (d : Dev nD) : S196608.Idx → BitVec 32 := m (oLoc d)
/-- The SparseCores' part of the result after the call. -/
def o1 (d : Dev nD) : S196608.Idx → BitVec 32 := outF (xT m d) (tS m d)

theorem bound_zero : grid0.bound 0 = 2 := rfl
theorem bound_one : grid0.bound 1 = 16 := rfl
abbrev coordsN (c : Fin 2) (i : Fin 16) : grid0.Coords := coordsV (Fin.cast bound_zero.symm c) (Fin.cast bound_one.symm i)
theorem nCore_zero : (K (F := F)).nCore 0 = 2 := rfl

/-- The call deals each tile its part; each SparseCore is handed its sixteen tiles' parts. -/
def P : (K (F := F)).Pay (nD := nD) (Val := Elt F) (Name := ℕ) (U := UU) where
  st := fun q d c => match q with | 0 => bigSep Finset.univ fun i : Fin 16 => tileHas m d (o0 m d) (coordsN (Fin.cast nCore_zero c) i)
  dn := fun q d c => match q with | 0 => bigSep Finset.univ fun i : Fin 16 => tileHas m d (o1 m d) (coordsN (Fin.cast nCore_zero c) i)
  go := fun q d c i => match q with | 0 => tileHas m d (o0 m d) (coordsN (Fin.cast nCore_zero c) (Fin.cast nSub_zero i))
  td := fun q d c i => match q with | 0 => tileHas m d (o1 m d) (coordsN (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => tileHas m d (o0 m d) (coordsN (Fin.cast nCore_zero c) i)))
  dn q d c := match q with
    | 0 => (inferInstance : BI.Storable (upEmb : UEmb _ 𝕄) (bigSep Finset.univ fun i : Fin 16 => tileHas m d (o1 m d) (coordsN (Fin.cast nCore_zero c) i)))
  go q d c i := match q with
    | 0 => (inferInstance : BI.Storable (upEmb : UEmb _ 𝕄) (tileHas m d (o0 m d) (coordsN (Fin.cast nCore_zero c) (Fin.cast nSub_zero i))))
  td q d c i := match q with
    | 0 => (inferInstance : BI.Storable (upEmb : UEmb _ 𝕄) (tileHas m d (o1 m d) (coordsN (Fin.cast nCore_zero c) (Fin.cast nSub_zero i))))

/-! ## A tile's own buffers and semaphores -/

section Tile

variable (d : Dev nD) (L : grid0.Coords)

/-- The five semaphores the body names, of the tile at `(c, i)`. -/
def dk : Fin 5 → DmaSem sig := fun | 0 => csem 0 | 1 => csem 1 | 2 => csem 2 | 3 => csem 3 | 4 => csem 4
abbrev dcell (d : Dev nD) (c : Fin τ.nSC) (i : Fin τ.nSub) (k : Fin 5) : GSem nD τ sig := (V d c i, .dma (dk k))

omit [FloatOps F] in
theorem dcell_mem (c : Fin τ.nSC) (i : Fin τ.nSub) (k : Fin 5) : dcell d c i k ∈ ownCells (V d c i) :=
  mem_ownCells.mpr ⟨rfl, match k with
    | 0 => (show (SemLoc.dma (csem 0) : SemLoc sig).isScoped .scVector = true by decide)
    | 1 => (show (SemLoc.dma (csem 1) : SemLoc sig).isScoped .scVector = true by decide)
    | 2 => (show (SemLoc.dma (csem 2) : SemLoc sig).isScoped .scVector = true by decide)
    | 3 => (show (SemLoc.dma (csem 3) : SemLoc sig).isScoped .scVector = true by decide)
    | 4 => (show (SemLoc.dma (csem 4) : SemLoc sig).isScoped .scVector = true by decide)⟩

theorem dcell_inj (c : Fin τ.nSC) (i : Fin τ.nSub) : Function.Injective (dcell d c i) := by
  intro a b h
  have h' := congrArg (fun g : GSem nD τ sig => g.2) h
  simp only [SemLoc.dma.injEq] at h'
  exact (show ∀ a b : Fin 5, dk a = dk b → a = b by decide) a b h'

/-- A tile's own semaphores at zero: the five the body names, one by one, and the rest. -/
theorem ownSems0_V :
    (ownSems0 (VT d L) : sProp 𝕄)
      = iprop((semVal (VT d L, SemLoc.dma (csem 0)) 0 ∗ semVal (VT d L, SemLoc.dma (csem 1)) 0 ∗ semVal (VT d L, SemLoc.dma (csem 2)) 0
          ∗ semVal (VT d L, SemLoc.dma (csem 3)) 0 ∗ semVal (VT d L, SemLoc.dma (csem 4)) 0)
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => dcell_inj d _ _ h)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  try rfl

/-- A tile's own buffers: the five the body names, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ (∃ f, (VT d L).loc cc0_scratch4 ↦{fullShare} f)
          ∗ bigSep ((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  have hne : ∀ {a b : Ref sig .scVector}, a ≠ b → (Proc.scVector (cV L) (jV L)).devRef a ≠ (Proc.scVector (cV L) (jV L)).devRef b :=
    fun h e => h (Proc.devRef_injective _ e)
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨hne (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨hne (show (cc0_scratch3 : Ref sig .scVector) ≠ cc0_scratch2 by decide),
      Finset.mem_erase.mpr ⟨hne (show (cc0_scratch3 : Ref sig .scVector) ≠ cc0_scratch1 by decide),
      Finset.mem_erase.mpr ⟨hne (show (cc0_scratch3 : Ref sig .scVector) ≠ cc0_scratch0 by decide),
      SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨hne (show (cc0_scratch4 : Ref sig .scVector) ≠ cc0_scratch3 by decide),
      Finset.mem_erase.mpr ⟨hne (show (cc0_scratch4 : Ref sig .scVector) ≠ cc0_scratch2 by decide),
      Finset.mem_erase.mpr ⟨hne (show (cc0_scratch4 : Ref sig .scVector) ≠ cc0_scratch1 by decide),
      Finset.mem_erase.mpr ⟨hne (show (cc0_scratch4 : Ref sig .scVector) ≠ cc0_scratch0 by decide),
      SparseCore.Cfg.mem_ownRefs_of_owner (p := Proc.scVector (cV L) (jV L)) (b := (Proc.scVector (cV L) (jV L)).devRef cc0_scratch4) rfl⟩⟩⟩⟩)]

/-- A share of the transposed scores as what stays aside and two read tokens, one per copy in flight. -/
theorem xToks (q : PosShare TreeShare) (f : Buf (Elt F) (xLoc d)) :
    (xLoc d ↦{q} f : sProp 𝕄) ⊣⊢ iprop((xLoc d ↦{Transfers.shareDrop q 2} f) ∗ (xLoc d ↦{Transfers.shareTokN q 0} f) ∗ (xLoc d ↦{Transfers.shareTokN q 1} f)) := by
  have h : (xLoc d ↦{q} f : sProp 𝕄) ⊣⊢ iprop((xLoc d ↦{Transfers.shareDrop q 2} f) ∗ bigSep (Finset.range 2) fun i => xLoc d ↦{Transfers.shareTokN q i} f) :=
    Transfers.pointsTo_toks_range (ℓ := xLoc d) (S := Finset.univ) (f := f) q 2
  rw [show Finset.range 2 = {0, 1} by decide, SparseCore.bigSep_insert' (by decide), bigSep_singleton] at h
  exact h

theorem whole_pts (b : Ref sig .scVector) (f : Buf (Elt F) ((VT d L).loc b)) :
    ((View.whole b).loc (VT d L) ↦[(View.whole b).set]{fullShare} f : sProp 𝕄) = (VT d L).loc b ↦{fullShare} f := by
  rw [View.set_whole]

/-- The tile at `L`, from what the launch deals it to what it hands back. -/
theorem tile_body (hF : (K (F := F)).Facts) (O : CellTallies nD τ sig (HIx 1)) (W : Waits sig (HIx 1)) (hO : ∀ g, O g none = 0) :
    iprop(levAts (K (F := F)).L (K (F := F)).lev ∗ emp ∗ tileHas m d (o0 m d) L
        ∗ scopedBufs (VT d L) ∗ scopedSems0 (VT d L) ∗ owes (VT d L) O W)
      ⊢ wp frame (wpE (defs₀ (F := F)) 𝒱₀ (VT d L) none) Set.univ
          (cc0__sc_body L xV (Memref.isWhole_whole _) tV (Memref.isWhole_whole _) oV (Memref.isWhole_whole _) a5 (Memref.isWhole_whole _)
            a6 (Memref.isWhole_whole _) a7 (Memref.isWhole_whole _) a8 (Memref.isWhole_whole _) a9 (Memref.isWhole_whole _)
            cc0_scratch5 cc0_scratch6 cc0_scratch7 cc0_scratch8 cc0_scoped0)
          fun _ => iprop(tileHas m d (o1 m d) L
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold tileHas
  iintro ⟨#Hlv, -, ⟨Hx, Ht, Ho⟩, ⟨⟨%f5, H5⟩, ⟨%f6, H6⟩, ⟨%f7, H7⟩, ⟨%f8, H8⟩, ⟨%f9, H9⟩, Hbufs⟩, ⟨⟨Hs0, Hs1, Hs2, Hs3, Hs4⟩, Hsems⟩, HO⟩
  ihave Hmw := (show levAts (K (F := F)).L (K (F := F)).lev ⊢ Transfers.MayWaits (VT d L) (default : HIx 1) O from
    (K (F := F)).mayWaits_none (thr := VT d L) hO) $$ Hlv
  ihave Hx' := (xToks d (tqL L) (xT m d)).1 $$ Hx
  icases Hx' with ⟨Hxr, Hx0, Hx1⟩
  iapply (wp_wand_r Idealize.ShloMosaic.frame (wpE (defs₀ (F := F)) 𝒱₀ (VT d L) none) Set.univ)
  isplitl [Hx0 Hx1 Ht Ho H5 H6 H7 H8 H9 Hs0 Hs1 Hs2 Hs3 Hs4 HO]
  · iapply (tile_run d L (tqL L) (xT m d) (tB m d) (tS m d) (tB_apply m d) (o0 m d) O W)
    isplitr; · iexact Hmw
    isplitl [Hx0]; · iexact Hx0
    isplitl [Hx1]; · iexact Hx1
    isplitl [Ht]; · iexact Ht
    isplitl [Ho]; · iexact Ho
    isplitr [HO]
    · unfold tileOwn
      isplitl [H5]; · iexists _; iapply (Entails.of_eq (whole_pts (F := F) d L cc0_scratch0 _).symm); iexact H5
      isplitl [H6]; · iexists _; iapply (Entails.of_eq (whole_pts (F := F) d L cc0_scratch1 _).symm); iexact H6
      isplitl [H7]; · iexists _; iapply (Entails.of_eq (whole_pts (F := F) d L cc0_scratch2 _).symm); iexact H7
      isplitl [H8]; · iexists _; iapply (Entails.of_eq (whole_pts (F := F) d L cc0_scratch3 _).symm); iexact H8
      isplitl [H9]; · iexists _; iapply (Entails.of_eq (whole_pts (F := F) d L cc0_scratch4 _).symm); iexact H9
      isplitl [Hs0]; · iexact Hs0
      isplitl [Hs1]; · iexact Hs1
      isplitl [Hs2]; · iexact Hs2
      isplitl [Hs3]; · iexact Hs3
      iexact Hs4
    iexact HO
  unfold tileOwn
  iintro %_ ⟨Hx0, Hx1, Ht, Ho, ⟨⟨%f5, H5⟩, ⟨%f6, H6⟩, ⟨%f7, H7⟩, ⟨%f8, H8⟩, ⟨%f9, H9⟩, Hs0, Hs1, Hs2, Hs3, Hs4⟩, ⟨%W', HO⟩⟩
  ihave Hx := (xToks d (tqL L) (xT m d)).2 $$ [Hxr Hx0 Hx1]
  · isplitl [Hxr]; · iexact Hxr
    isplitl [Hx0]; · iexact Hx0
    iexact Hx1
  isplitl [Hx Ht Ho]
  · isplitl [Hx]; · iexact Hx
    isplitl [Ht]; · iexact Ht
    iexact Ho
  isplitl [H5 H6 H7 H8 H9 Hbufs]
  · isplitl [H5]; · iexists _; iapply (Entails.of_eq (whole_pts (F := F) d L cc0_scratch0 _)); iexact H5
    isplitl [H6]; · iexists _; iapply (Entails.of_eq (whole_pts (F := F) d L cc0_scratch1 _)); iexact H6
    isplitl [H7]; · iexists _; iapply (Entails.of_eq (whole_pts (F := F) d L cc0_scratch2 _)); iexact H7
    isplitl [H8]; · iexists _; iapply (Entails.of_eq (whole_pts (F := F) d L cc0_scratch3 _)); iexact H8
    isplitl [H9]; · iexists _; iapply (Entails.of_eq (whole_pts (F := F) d L cc0_scratch4 _)); iexact H9
    iexact Hbufs
  isplitl [Hs0 Hs1 Hs2 Hs3 Hs4 Hsems]
  · isplitr [Hsems]
    · isplitl [Hs0]; · iexact Hs0
      isplitl [Hs1]; · iexact Hs1
      isplitl [Hs2]; · iexact Hs2
      isplitl [Hs3]; · iexact Hs3
      iexact Hs4
    iexact Hsems
  iexists W'; isplitr
  · ipureintro; intro p _
    rcases p.2 with _ | q
    · exact .inr (.inl rfl)
    · exact .inr (.inr (congrArg some (Subsingleton.elim q 0)))
  · iexact HO

end Tile

theorem defs₀_vector (c : Fin τ.nSC) (s : Fin τ.nSub) :
    defs₀ (F := F) (.scVector c s) 0 ()
      = SparseCore.onTile hcore0 hsub0 (fun c s => cc0__sc_body (coordsV c s) xV (Memref.isWhole_whole _) tV (Memref.isWhole_whole _)
          oV (Memref.isWhole_whole _) a5 (Memref.isWhole_whole _) a6 (Memref.isWhole_whole _) a7 (Memref.isWhole_whole _)
          a8 (Memref.isWhole_whole _) a9 (Memref.isWhole_whole _)
          cc0_scratch5 cc0_scratch6 cc0_scratch7 cc0_scratch8 cc0_scoped0) ⟨⟩ c s := rfl

/-- Every tile runs from its part of the call to its part of the result. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's part is its tiles' parts. -/
theorem vecSplit : (K (F := F)).VecSplit' (P m) 0 := by
  intro d c
  show (bigSep Finset.univ fun i : Fin 16 => tileHas m d (o0 m d) (coordsN (Fin.cast nCore_zero c) i)) ⊢ |={Set.univ}=> iprop(
      (bigSep Finset.univ fun i : Fin ((K (F := F)).nSub 0) => tileHas m d (o0 m d) (coordsN (Fin.cast nCore_zero c) (Fin.cast nSub_zero i)))
      ∗ ((bigSep Finset.univ fun i : Fin ((K (F := F)).nSub 0) => tileHas m d (o1 m d) (coordsN (Fin.cast nCore_zero c) (Fin.cast nSub_zero i)))
          -∗ (bigSep Finset.univ fun i : Fin 16 => tileHas m d (o1 m d) (coordsN (Fin.cast nCore_zero c) i))))
  rw [bigSep_tasks (F := F) (fun i => tileHas m d (o0 m d) (coordsN (Fin.cast nCore_zero c) i)),
    bigSep_tasks (F := F) (fun i => tileHas m d (o1 m d) (coordsN (Fin.cast nCore_zero c) i))]
  iintro H; imodintro
  isplitl [H]; · iexact H
  iintro H; iexact H

/-! ## The whole arrays are the tiles' parts -/

/-- The pieces of the result that the tile at `L` writes. -/
def tileSet (L : grid0.Coords) : Finset (Idx (oLoc 0)) := (Finset.range 48).biUnion fun n => (osl L n).view.set

theorem mem_tileSet (c : Fin 2) (i : Fin 16) (x : S196608.Idx) :
    x ∈ tileSet (coordsN c i) ↔ (x 0).val % 4096 / 256 = i.val ∧ (x 0).val % 256 / 128 = c.val := by
  unfold tileSet
  have hx : (x 0).val < 196608 := (x 0).isLt
  have hc := c.isLt
  have hi := i.isLt
  have e0 : ((coordsN c i) 0).val = c.val := rfl
  have e1 : ((coordsN c i) 1).val = i.val := rfl
  constructor
  · intro h
    obtain ⟨n, hn, h⟩ := Finset.mem_biUnion.mp h
    have hn := Finset.mem_range.mp hn
    have h := (mem_osl (L := coordsN c i) (n := n) x).mp h
    unfold colBase at h
    rw [e0, e1] at h
    omega
  · rintro ⟨h1, h2⟩
    refine Finset.mem_biUnion.mpr ⟨(x 0).val / 4096, Finset.mem_range.mpr (by omega), ?_⟩
    refine (mem_osl (L := coordsN c i) (n := (x 0).val / 4096) x).mpr ?_
    unfold colBase
    rw [e0, e1]
    omega

theorem pieces_disjoint (L : grid0.Coords) : ∀ n ∈ Finset.range 48, ∀ n' ∈ Finset.range 48, n ≠ n' → Disjoint (osl L n).view.set (osl L n').view.set := by
  intro n hn n' hn' hne
  have hn := Finset.mem_range.mp hn
  have hn' := Finset.mem_range.mp hn'
  refine Finset.disjoint_left.mpr fun x h h' => ?_
  have h := (mem_osl (L := L) (n := n) x).mp h
  have h' := (mem_osl (L := L) (n := n') x).mp h'
  unfold colBase at h h'
  omega

theorem tiles_disjoint : ∀ p ∈ (Finset.univ : Finset (Fin 2 × Fin 16)), ∀ p' ∈ (Finset.univ : Finset (Fin 2 × Fin 16)), p ≠ p' →
    Disjoint (tileSet (coordsN p.1 p.2)) (tileSet (coordsN p'.1 p'.2)) := by
  intro p _ p' _ hne
  refine Finset.disjoint_left.mpr fun x h h' => hne ?_
  have h := (mem_tileSet p.1 p.2 x).mp h
  have h' := (mem_tileSet p'.1 p'.2 x).mp h'
  exact Prod.ext (Fin.ext (h.2.symm.trans h'.2)) (Fin.ext (h.1.symm.trans h'.1))

theorem tiles_cover : (Finset.univ : Finset (Fin 2 × Fin 16)).biUnion (fun p => tileSet (coordsN p.1 p.2)) = Finset.univ := by
  refine Finset.eq_univ_of_forall fun x => Finset.mem_biUnion.mpr
    ⟨(⟨(x 0).val % 256 / 128, by omega⟩, ⟨(x 0).val % 4096 / 256, by omega⟩), Finset.mem_univ _, ?_⟩
  exact (mem_tileSet _ _ x).mpr ⟨rfl, rfl⟩

/-- The tile's pieces together. -/
theorem pieces_eq (d : Dev nD) (L : grid0.Coords) (f : S196608.Idx → BitVec 32) :
    (bigSep (Finset.range 48) fun n => oPts (F := F) d L n f) = (oLoc d ↦[tileSet L]{fullShare} f : sProp 𝕄) :=
  (pointsTo_biUnion (Finset.range 48) (ℓ := oLoc d) (fun n => (osl L n).view.set) (pieces_disjoint L)).symm

/-- The SparseCores' part of the result is all the tiles' pieces. -/
theorem oPts_tiles (d : Dev nD) (f : S196608.Idx → BitVec 32) :
    (oLoc d ↦{fullShare} f : sProp 𝕄)
      = bigSep Finset.univ fun c : Fin 2 => bigSep Finset.univ fun i : Fin 16 => bigSep (Finset.range 48) fun n => oPts (F := F) d (coordsN c i) n f := by
  have h : (oLoc d ↦{fullShare} f : sProp 𝕄) = bigSep Finset.univ fun p : Fin 2 × Fin 16 => (oLoc d ↦[tileSet (coordsN p.1 p.2)]{fullShare} f : sProp 𝕄) := by
    rw [← pointsTo_biUnion Finset.univ (ℓ := oLoc d) (fun p : Fin 2 × Fin 16 => tileSet (coordsN p.1 p.2)) tiles_disjoint, tiles_cover]; try rfl
  rw [h, BI.bigSep_univ_prod]
  exact bigSep_congr fun c _ => bigSep_congr fun i _ => (pieces_eq d _ f).symm

/-- A whole read array is the tiles' shares of it. -/
theorem pts_tiles (ℓ : Loc nD τ sig) (f : Buf (Elt F) ℓ) :
    (ℓ ↦{fullShare} f : sProp 𝕄) = bigSep Finset.univ fun c : Fin 2 => bigSep Finset.univ fun i : Fin 16 => ℓ ↦{tqL (coordsN c i)} f :=
  (pointsTo_leaves Finset.univ f 1 fullShare).trans (bigSep_congr fun c _ => pointsTo_leaves Finset.univ f 4 (leaf 1 fullShare c))

/-- The three arrays whole, the result's part at `f`, are what the two SparseCores are handed. -/
theorem deal (d : Dev nD) (f : S196608.Idx → BitVec 32) :
    (bigSep Finset.univ fun c : Fin 2 => bigSep Finset.univ fun i : Fin 16 => tileHas m d f (coordsN c i))
      = (iprop((xLoc d ↦{fullShare} xT m d) ∗ (tLoc d ↦{fullShare} tB m d) ∗ (oLoc d ↦{fullShare} f)) : sProp 𝕄) := by
  rw [pts_tiles (xLoc d), pts_tiles (tLoc d), oPts_tiles d f]
  unfold tileHas
  simp only [BI.bigSep_sep']

theorem st0_eq (d : Dev nD) : (bigSep Finset.univ fun c : Fin ((K (F := F)).nCore 0) => (P m).st 0 d c)
    = (iprop((xLoc d ↦{fullShare} xT m d) ∗ (tLoc d ↦{fullShare} tB m d) ∗ (oLoc d ↦{fullShare} o0 m d)) : sProp 𝕄) := by
  rw [← deal m d (o0 m d)]
  exact bigSep_congr fun _ _ => rfl
theorem dn0_eq (d : Dev nD) : (bigSep Finset.univ fun c : Fin ((K (F := F)).nCore 0) => (P m).dn 0 d c)
    = (iprop((xLoc d ↦{fullShare} xT m d) ∗ (tLoc d ↦{fullShare} tB m d) ∗ (oLoc d ↦{fullShare} o1 m d)) : sProp 𝕄) := by
  rw [← deal m d (o1 m d)]
  exact bigSep_congr fun _ _ => rfl

end Cert.Proof
-- ==== Proof.TcBody.lean ====
module

public import proofs.«01_k».proof.Proof.Launch
public import Idealize.ShloMosaic.Lib.ValueLayoutCasts
public import proofs.«01_k».proof.Proof.Gen.KernelIdeal.Launch
public import proofs.«01_k».proof.Proof.Gen.KernelIdeal.Points
public import Idealize.ShloMosaic.Lib.Pipeline.Value
public import Idealize.ShloMosaic.Lib.ValueLayout
public import Idealize.ShloMosaic.Lib.Tactic

/-! # The TensorCore kernel's body: the class of each of its 16384 columns -/

@[expose] public section

set_option maxRecDepth 65536
set_option maxHeartbeats 0

noncomputable section

namespace Cert.Proof

open Cert.KernelIdeal Cert.KernelIdeal.Gen
open Idealize.ShloMosaic
open Idealize.ShloMosaic.TcCoe
open Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf kernel pipe)

variable {F : FTy → Type} [FloatOps F]

local notation "𝕄" => MT nD τ sig (HIx 1) (Elt F) ℕ UU ℕ

/-! ## The body -/

/-- The body on the threshold's buffer, the scores' staging buffer `s1` and the result's `s2`: the result's buffer
    ends holding each column's class, the other two unchanged. -/
theorem tc_body (c : Dev nD) (E : Set ℕ) (i : grid1.Coords) (s0 : Fin 1) (s1 s2 : Fin 2)
    (X0 : S1.Idx → Elt F .f32) (X1 : S80x16384.Idx → Elt F .f32) (X2 : S16384.Idx → Elt F .i32) (Kk : PUnit → sProp 𝕄) :
    iprop((owns (c : Thread nD τ) (stage1_0 s0) fullShare X0 ∗ owns (c : Thread nD τ) (stage1_1 s1) fullShare X1
            ∗ owns (c : Thread nD τ) (stage1_2 s2) fullShare X2)
          ∗ (iprop(owns (c : Thread nD τ) (stage1_0 s0) fullShare X0 ∗ owns (c : Thread nD τ) (stage1_1 s1) fullShare X1
                  ∗ owns (c : Thread nD τ) (stage1_2 s2) fullShare (k1_pay1 X1 (X0 (ix1 0)))) -∗ Kk ⟨⟩))
      ⊢ wp frame (wpE (defs₀ (F := F)) 𝒱₀ c none) E
          (cc1__tc_body i (stage1_0 s0) (hstage1_0 s0) (stage1_1 s1) (hstage1_1 s1) (stage1_2 s2) (hstage1_2 s2)) Kk := by
  have hsub : Subsingleton S1.Idx := ⟨fun a b => funext fun k => by
    fin_cases k
    exact Fin.ext (by have h1 : (a 0).val < 1 := (a 0).isLt; have h2 : (b 0).val < 1 := (b 0).isLt; show (a 0).val = (b 0).val; omega)⟩
  have hz : (![0, 0] : Fin 2 → Nat) = fun _ => 0 := funext fun a => by fin_cases a <;> rfl
  have hz1 : (![0] : Fin 1 → Nat) = fun _ => 0 := funext fun a => by fin_cases a; rfl
  fin_cases s0 <;> fin_cases s1 <;> fin_cases s2
  · have hr0 : (Memref.whole cc1_stg0_0 : Memref sig .tc _ _ _).view.readAt (Elt F) (Rect.unit (s := S1) ![0] S1.size
        inb_S1_S1_0).toLoadRect = id := funext (Memref.readAt_unit_zero (Elt F) cc1_stg0_0 hz1 _)
    have hr1 : (Memref.whole cc1_stg1_0 : Memref sig .tc _ _ _).view.readAt (Elt F) (Rect.unit (s := S80x16384) ![0, 0] S80x16384.size
        inb_S80x16384_S80x16384_0_0).toLoadRect = id := funext (Memref.readAt_unit_zero (Elt F) cc1_stg1_0 hz _)
    have hw2 : ∀ f w, (((Memref.whole cc1_stg2_0).access (Rect.unit (s := S16384) ![0] S16384.size inb_S16384_S16384_0)) :
        View sig .tc _ _ _).write (Elt F) f w Finset.univ = w := Memref.write_access_unit_zero_univ (Elt F) cc1_stg2_0 hz1 _
    simp only [owns_whole_eq]
    rw [cc1__tc_body_eq_skeleton]; unfold cc1__tc_body_skel
    simp only [smemLoad, smemLoadElt, Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr1, hw2]
    isplitl [H0]
    · iexists f0; isplitr; · ipureintro; exact hf0
      iexact H0
    isplitl [H1]
    · iexists f1; isplitr; · ipureintro; exact hf1
      iexact H1
    · iexists _; isplitr
      swap
      · iexact H2
      · ipureintro
        refine congrArg₂ k1_pay1 hf1 ((congrFun (congrFun hr0 f0) _).trans ?_)
        exact (congrFun hf0 _).trans (congrArg X0 (hsub.elim _ _))
  · have hr0 : (Memref.whole cc1_stg0_0 : Memref sig .tc _ _ _).view.readAt (Elt F) (Rect.unit (s := S1) ![0] S1.size
        inb_S1_S1_0).toLoadRect = id := funext (Memref.readAt_unit_zero (Elt F) cc1_stg0_0 hz1 _)
    have hr1 : (Memref.whole cc1_stg1_0 : Memref sig .tc _ _ _).view.readAt (Elt F) (Rect.unit (s := S80x16384) ![0, 0] S80x16384.size
        inb_S80x16384_S80x16384_0_0).toLoadRect = id := funext (Memref.readAt_unit_zero (Elt F) cc1_stg1_0 hz _)
    have hw2 : ∀ f w, (((Memref.whole cc1_stg2_1).access (Rect.unit (s := S16384) ![0] S16384.size inb_S16384_S16384_0)) :
        View sig .tc _ _ _).write (Elt F) f w Finset.univ = w := Memref.write_access_unit_zero_univ (Elt F) cc1_stg2_1 hz1 _
    simp only [owns_whole_eq]
    rw [cc1__tc_body_eq_skeleton]; unfold cc1__tc_body_skel
    simp only [smemLoad, smemLoadElt, Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr1, hw2]
    isplitl [H0]
    · iexists f0; isplitr; · ipureintro; exact hf0
      iexact H0
    isplitl [H1]
    · iexists f1; isplitr; · ipureintro; exact hf1
      iexact H1
    · iexists _; isplitr
      swap
      · iexact H2
      · ipureintro
        refine congrArg₂ k1_pay1 hf1 ((congrFun (congrFun hr0 f0) _).trans ?_)
        exact (congrFun hf0 _).trans (congrArg X0 (hsub.elim _ _))
  · have hr0 : (Memref.whole cc1_stg0_0 : Memref sig .tc _ _ _).view.readAt (Elt F) (Rect.unit (s := S1) ![0] S1.size
        inb_S1_S1_0).toLoadRect = id := funext (Memref.readAt_unit_zero (Elt F) cc1_stg0_0 hz1 _)
    have hr1 : (Memref.whole cc1_stg1_1 : Memref sig .tc _ _ _).view.readAt (Elt F) (Rect.unit (s := S80x16384) ![0, 0] S80x16384.size
        inb_S80x16384_S80x16384_0_0).toLoadRect = id := funext (Memref.readAt_unit_zero (Elt F) cc1_stg1_1 hz _)
    have hw2 : ∀ f w, (((Memref.whole cc1_stg2_0).access (Rect.unit (s := S16384) ![0] S16384.size inb_S16384_S16384_0)) :
        View sig .tc _ _ _).write (Elt F) f w Finset.univ = w := Memref.write_access_unit_zero_univ (Elt F) cc1_stg2_0 hz1 _
    simp only [owns_whole_eq]
    rw [cc1__tc_body_eq_skeleton]; unfold cc1__tc_body_skel
    simp only [smemLoad, smemLoadElt, Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr1, hw2]
    isplitl [H0]
    · iexists f0; isplitr; · ipureintro; exact hf0
      iexact H0
    isplitl [H1]
    · iexists f1; isplitr; · ipureintro; exact hf1
      iexact H1
    · iexists _; isplitr
      swap
      · iexact H2
      · ipureintro
        refine congrArg₂ k1_pay1 hf1 ((congrFun (congrFun hr0 f0) _).trans ?_)
        exact (congrFun hf0 _).trans (congrArg X0 (hsub.elim _ _))
  · have hr0 : (Memref.whole cc1_stg0_0 : Memref sig .tc _ _ _).view.readAt (Elt F) (Rect.unit (s := S1) ![0] S1.size
        inb_S1_S1_0).toLoadRect = id := funext (Memref.readAt_unit_zero (Elt F) cc1_stg0_0 hz1 _)
    have hr1 : (Memref.whole cc1_stg1_1 : Memref sig .tc _ _ _).view.readAt (Elt F) (Rect.unit (s := S80x16384) ![0, 0] S80x16384.size
        inb_S80x16384_S80x16384_0_0).toLoadRect = id := funext (Memref.readAt_unit_zero (Elt F) cc1_stg1_1 hz _)
    have hw2 : ∀ f w, (((Memref.whole cc1_stg2_1).access (Rect.unit (s := S16384) ![0] S16384.size inb_S16384_S16384_0)) :
        View sig .tc _ _ _).write (Elt F) f w Finset.univ = w := Memref.write_access_unit_zero_univ (Elt F) cc1_stg2_1 hz1 _
    simp only [owns_whole_eq]
    rw [cc1__tc_body_eq_skeleton]; unfold cc1__tc_body_skel
    simp only [smemLoad, smemLoadElt, Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr1, hw2]
    isplitl [H0]
    · iexists f0; isplitr; · ipureintro; exact hf0
      iexact H0
    isplitl [H1]
    · iexists f1; isplitr; · ipureintro; exact hf1
      iexact H1
    · iexists _; isplitr
      swap
      · iexact H2
      · ipureintro
        refine congrArg₂ k1_pay1 hf1 ((congrFun (congrFun hr0 f0) _).trans ?_)
        exact (congrFun hf0 _).trans (congrArg X0 (hsub.elim _ _))

end Cert.Proof
-- ==== Proof.TcValue.lean ====
module

public import proofs.«01_k».proof.Proof.Tile
public import proofs.«01_k».proof.Proof.Gen.KernelIdeal.Launch
public import proofs.«01_k».proof.Proof.Gen.KernelIdeal.Points
public import Idealize.ShloMosaic.Lib.Pipeline.Value
public import Idealize.ShloMosaic.Lib.ValueLayout
public import Idealize.ShloMosaic.Lib.ValueLayoutCasts
public import Idealize.ShloMosaic.PureOps.Reduce
public import Idealize.ShloMosaic.Lib.Tactic

/-! # The value the TensorCore kernel computes: the class of each of its columns -/

@[expose] public section

set_option maxRecDepth 65536
set_option maxHeartbeats 0

noncomputable section

namespace Cert.Proof

open Cert.KernelIdeal Cert.KernelIdeal.Gen
open Idealize.ShloMosaic
open Idealize.ShloMosaic.TcCoe
open Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf kernel pipe)

variable {F : FTy → Type} [FloatOps F]

local notation "𝕄" => MT nD τ sig (HIx 1) (Elt F) ℕ UU ℕ

/-! ## The value -/

/-- The maximum of a column's eighty scores, from the first to the last. -/
def tcMax (v : ℕ → F .f32) : F .f32 :=
  (List.finRange 80).foldl (fun r c => FloatOps.maximumf r (v c.val)) (FloatOps.ofBits .f32 0xFF800000#32)

/-- The least class at which a column's score equals the column's maximum, zero when the maximum is below the
    threshold. -/
def tcClass (v : ℕ → F .f32) (t : F .f32) : BitVec 32 :=
  Scalar.select (FloatOps.cmpf .olt (tcMax v) t) 0#32
    ((List.finRange 80).foldl (fun r c => IntOp.minsi r
      (Scalar.select (FloatOps.cmpf .oeq (v c.val) (tcMax v)) (BitVec.ofNat 32 c.val) 80#32)) 2147483647#32)

/-- The column's maximum, as the kernel's reduction over the classes computes it. -/
theorem tc_max_apply (x : Vec F S80x16384 .f32) (j : Fin 16384) :
    multiReduction .maximumf [0] S16384 x 0xFF800000#32 reduces_S80x16384_S16384 (.inl rfl) rfl (ix1 j)
      = tcMax fun c => x (ix2 (⟨c % 80, Nat.mod_lt _ (by decide)⟩ : Fin 80) j) := by
  have hc : Shape.Reduces.col (d := ![80, 16384]) reduces_S80x16384_S16384 (ix1 j) = j := Fin.ext rfl
  refine (reduceFold_rows reduces_S80x16384_S16384 FloatOps.maximumf (FloatOps.ofBits .f32 0xFF800000#32) x (ix1 j)).trans ?_
  rw [hc]
  unfold tcMax
  refine congrArg (fun f => List.foldl f (FloatOps.ofBits .f32 0xFF800000#32) (List.finRange 80)) (funext fun acc => funext fun r => ?_)
  refine congrArg (FloatOps.maximumf acc) (congrArg x ?_)
  refine (pair_eq_ix2 (n0 := 80) (⟨r.val, r.isLt⟩ : Fin 80) j).trans ?_
  exact congrArg (fun a => ix2 a j) (Fin.ext (Nat.mod_eq_of_lt r.isLt).symm)

/-- What the body stores at a column: the column's class. -/
theorem k1_pay1_apply (x : Vec F S80x16384 .f32) (t : F .f32) (j : Fin 16384) :
    k1_pay1 x t (ix1 j) = tcClass (fun c => x (ix2 (⟨c % 80, Nat.mod_lt _ (by decide)⟩ : Fin 80) j)) t := by
  unfold k1_pay1
  simp only [shapeCast_self]
  have hc : Shape.Reduces.col (d := ![80, 16384]) reduces_S80x16384_S16384 (ix1 j) = j := Fin.ext rfl
  have hmin : ∀ w : IVec S80x16384 32, multiReductionI .minsi [0] S16384 w 2147483647#32 reduces_S80x16384_S16384 rfl (ix1 j)
      = (List.finRange 80).foldl (fun acc r => IntOp.minsi acc (w (ix2 r j))) 2147483647#32 := by
    intro w
    refine (reduceFold_rows reduces_S80x16384_S16384 IntOp.minsi 2147483647#32 w (ix1 j)).trans ?_
    rw [hc]
    refine congrArg (fun f => List.foldl f 2147483647#32 (List.finRange 80)) (funext fun acc => funext fun r => ?_)
    exact congrArg (IntOp.minsi acc) (congrArg w (pair_eq_ix2 (n0 := 80) _ _))
  unfold tcClass
  show Scalar.select (FloatOps.cmpf .olt (multiReduction .maximumf [0] S16384 x 0xFF800000#32 reduces_S80x16384_S16384 (.inl rfl) rfl (ix1 j)) t) 0#32
    (multiReductionI .minsi [0] S16384 _ 2147483647#32 reduces_S80x16384_S16384 rfl (ix1 j)) = _
  rw [hmin, tc_max_apply]
  refine congrArg (Scalar.select _ 0#32) (congrArg (fun f => List.foldl f 2147483647#32 (List.finRange 80))
    (funext fun acc => funext fun r => ?_))
  refine congrArg (IntOp.minsi acc) ?_
  show Scalar.select (FloatOps.cmpf .oeq (x (ix2 r j)) (broadcastTo S80x16384 (shapeCast S1x16384 _ shapeCasts_S16384_S1x16384)
      broadcasts_S1x16384_S80x16384 (ix2 r j))) (iota .tc S80x16384 32 [0] iota_S80x16384_d0_w32 (ix2 r j)) 80#32 = _
  rw [broadcastTo_1b_ab_apply, shapeCast_a_1a_apply, tc_max_apply, iota_single_apply]
  have hr : (⟨r.val % 80, Nat.mod_lt _ (by decide)⟩ : Fin 80) = r := Fin.ext (Nat.mod_eq_of_lt r.isLt)
  show _ = Scalar.select (FloatOps.cmpf .oeq (x (ix2 (⟨r.val % 80, Nat.mod_lt _ (by decide)⟩ : Fin 80) j)) _) (BitVec.ofNat 32 r.val) 80#32
  rw [hr]

end Cert.Proof
-- ==== Proof.TcRegion.lean ====
module

public import proofs.«01_k».proof.Proof.TcBody
public import proofs.«01_k».proof.Proof.TcValue
public import Idealize.ShloMosaic.Lib.Pipeline.FrameBody

/-! # The TensorCore call's pipeline: its proof data, the body's obligation, the array it ends with -/

@[expose] public section

set_option maxRecDepth 65536
set_option maxHeartbeats 0

noncomputable section

namespace Cert.Proof

open Cert.KernelIdeal Cert.KernelIdeal.Gen
open Idealize.ShloMosaic
open Idealize.ShloMosaic.TcCoe
open Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf kernel pipe)

variable {F : FTy → Type} [FloatOps F]

local notation "𝕄" => MT nD τ sig (HIx 1) (Elt F) ℕ UU ℕ

/-! ## Where the blocks sit -/

/-- At every point the threshold's window is at its one block, the scores' at column block 12 + the point, the
    result's at block the point. -/
theorem index_0 : ∀ t : Fin cfg1.N, win1_0.index t 0 = 0 :=
  (by decide +kernel : ∀ t : Fin grid1.N, win1_0.index t 0 = 0)
theorem index_1_0 : ∀ t : Fin cfg1.N, win1_1.index t 0 = 0 :=
  (by decide +kernel : ∀ t : Fin grid1.N, win1_1.index t 0 = 0)
theorem index_1_1 : ∀ t : Fin cfg1.N, win1_1.index t 1 = 12 + t.val :=
  (by decide +kernel : ∀ t : Fin grid1.N, win1_1.index t 1 = 12 + t.val)
theorem index_2 : ∀ t : Fin cfg1.N, win1_2.index t 0 = t.val :=
  (by decide +kernel : ∀ t : Fin grid1.N, win1_2.index t 0 = t.val)

/-- The columns inside the arrays: 16384 at every point but the last, 8480 there, the same for the scores and the
    result; every class's row is. -/
theorem xsize_1_0 : ∀ t : Fin cfg1.N, win1_1.xsize (grid1.coords t) 0 = 80 :=
  (by decide +kernel : ∀ t : Fin grid1.N, win1_1.xsize (grid1.coords t) 0 = 80)
theorem xsize_1_1 : ∀ t : Fin cfg1.N, win1_1.xsize (grid1.coords t) 1 = win1_2.xsize (grid1.coords t) 0 :=
  (by decide +kernel : ∀ t : Fin grid1.N, win1_1.xsize (grid1.coords t) 1 = win1_2.xsize (grid1.coords t) 0)
theorem xsize_2 : ∀ t : Fin cfg1.N, win1_2.xsize (grid1.coords t) 0 = if t.val = 18 then 8480 else 16384 :=
  (by decide +kernel : ∀ t : Fin grid1.N, win1_2.xsize (grid1.coords t) 0 = if t.val = 18 then 8480 else 16384)

/-! ## The proof data -/

variable (V : (c : Dev nD) → (b : Ref sig .tc) → Buf (Elt F) ((c : Thread nD τ).loc b))

/-- The threshold, read from the one-element array. -/
def thr (c : Dev nD) : F .f32 := (V c main_v3 : S1.Idx → F .f32) (ix1 0)

/-- The TensorCore's part of the result: the classes of the columns from 196608 on. -/
def tcOut (X : S80x500000.Idx → F .f32) (t : F .f32) : S303392.Idx → BitVec 32 := fun i =>
  tcClass (fun k => X (ixT k (196608 + (i 0).val))) t

/-- The scores' block at a point, as the fetch reads it: its columns inside the array. -/
def xblk (c : Dev nD) (t : Fin cfg1.N) : (win1_1.xblock (grid1.coords t)).Idx → Elt F .f32 :=
  (win1_1.blk t).view.read (Elt F) (V c main_v0)

/-- The same filled out past the array's end with a word nothing reads. -/
def xblkFull (c : Dev nD) (t : Fin cfg1.N) : S80x16384.Idx → Elt F .f32 :=
  win1_1.fill (grid1.coords t) (fun _ => Scalar.ofBits .f32 0#32) (xblk V c t)

/-- The classes of a point's columns. -/
def oblk (c : Dev nD) (t : Fin cfg1.N) : S16384.Idx → Elt F .i32 := fun j =>
  tcClass (fun k => (V c main_v0 : S80x500000.Idx → F .f32) (ixT k (196608 + (16384 * t.val + (j 0).val)))) (thr V c)

/-- The scoped buffers no window stages, held at something. -/
abbrev Φc (c : Dev nD) : sProp 𝕄 := Pipeline.scopedRest (Ix := HIx 1) (Name := ℕ) (U := UU) (Lvl := ℕ) (Val := Elt F) spec1 c

/-- The proof data of the one pipeline: the arrays at `V`; after the body the threshold's and the scores' buffers as
    fetched and the result's at the classes; nothing owed; the waits recorded before it at the levels of the
    SparseCore call. -/
def dat1 (c : Dev nD) : Dat τ (Elt F) (HIx 1) ℕ UU ℕ cfg1 c where
  A w := V c (Pipeline.arrRef spec1 w)
  after w t := match w with
    | ⟨0, _⟩ => V c main_v3
    | ⟨1, _⟩ => xblkFull V c t
    | ⟨2, _⟩ => oblk V c t
  Φ _ := Φc c
  q _ := fullShare
  owed _ := 0
  recorded _ := {p | (K (F := F)).lev (SparseCore.T c, p.1) p.2 ≤ 8}

/-! ## What the body finds -/

/-- The whole block of the one-element array is the array. -/
theorem blk_0 (c : Dev nD) (t : Fin cfg1.N) (f : S1.Idx → Elt F .f32) : (win1_0.blk t).view.read (Elt F) f = f := by
  funext j
  have hsub : ∀ a b : S1.Idx, a = b := fun a b => funext fun k => by
    fin_cases k
    exact Fin.ext (by have h1 : (a 0).val < 1 := (a 0).isLt; have h2 : (b 0).val < 1 := (b 0).isLt; show (a 0).val = (b 0).val; omega)
  exact congrArg f (hsub _ _)

theorem before_0 (c : Dev nD) (t : Fin cfg1.N) (d) : (dat1 V c).before (0 : Fin 3) t d = V c main_v3 := by
  refine ((dat1 V c).before_in_eq_fetched (0 : Fin 3) rfl (fun _ => rfl) (fun _ _ _ => rfl) (fun t => ?_) t d).trans ?_
  · exact (blk_0 c t (V c main_v3)).symm
  · exact blk_0 c t (V c main_v3)

theorem before_1 (c : Dev nD) (t : Fin cfg1.N) (d) :
    (dat1 V c).before (1 : Fin 3) t d = win1_1.fill (grid1.coords t) d (xblk V c t) := by
  unfold Dat.before; rw [if_pos (fetch1_1 t)]; rfl

theorem before_2 (c : Dev nD) (t : Fin cfg1.N) (d) : (dat1 V c).before (2 : Fin 3) t d = d := by
  refine (dat1 V c).before_out_reset (2 : Fin 3) rfl t ?_ d
  by_cases h : t.val = 0
  · exact .inl h
  · exact .inr ⟨h, flush1_2 _⟩

/-- A column of the scores' staging buffer inside the array is the array's column. -/
theorem fill_col (c : Dev nD) (t : Fin cfg1.N) (d : S80x16384.Idx → Elt F .f32) (j : Fin 16384)
    (hj : j.val < win1_2.xsize (grid1.coords t) 0) (k : ℕ) :
    win1_1.fill (grid1.coords t) d (xblk V c t) (ix2 (⟨k % 80, Nat.mod_lt _ (by decide)⟩ : Fin 80) j)
      = (V c main_v0 : S80x500000.Idx → F .f32) (ixT k (196608 + (16384 * t.val + j.val))) := by
  have h80 : k % 80 < 80 := Nat.mod_lt _ (by decide)
  let j' : (win1_1.xblock (grid1.coords t)).Idx := fun a => match a with
    | ⟨0, _⟩ => ⟨k % 80, lt_of_lt_of_eq h80 (xsize_1_0 t).symm⟩
    | ⟨1, _⟩ => ⟨j.val, lt_of_lt_of_eq hj (xsize_1_1 t).symm⟩
  have he : ix2 (⟨k % 80, h80⟩ : Fin 80) j = win1_1.xinj (grid1.coords t) j' := by
    funext a; fin_cases a <;> rfl
  rw [he, Window.fill_xinj]
  show (V c main_v0 : S80x500000.Idx → F .f32) ((win1_1.rect t).emb j') = _
  congr 1
  have ht : t.val < 19 := t.isLt
  have hb := xsize_2 t
  have hj2 : 196608 + (16384 * t.val + j.val) < 500000 := by
    split at hb <;> omega
  funext a
  fin_cases a
  · refine Fin.ext ?_
    refine (Window.rect_emb_val win1_1 t j' (0 : Fin 2) rfl).trans ?_
    show win1_1.index t 0 * 80 + k % 80 = k % 80
    rw [index_1_0]; omega
  · refine Fin.ext ?_
    refine (Window.rect_emb_val win1_1 t j' (1 : Fin 2) rfl).trans ?_
    show win1_1.index t 1 * 16384 + j.val = (196608 + (16384 * t.val + j.val)) % 500000
    rw [index_1_1, Nat.mod_eq_of_lt hj2]; omega

/-- What the body stores, on the columns inside the array, is their classes. -/
theorem cut_stored (c : Dev nD) (t : Fin cfg1.N) (d : S80x16384.Idx → Elt F .f32) :
    win1_2.cut (grid1.coords t) (k1_pay1 (win1_1.fill (grid1.coords t) d (xblk V c t)) (thr V c) : S16384.Idx → Elt F .i32)
      = win1_2.cut (grid1.coords t) (oblk V c t) := by
  funext j
  have hj : (j 0).val < win1_2.xsize (grid1.coords t) 0 := (j 0).isLt
  have hlt : (j 0).val < 16384 := Nat.lt_of_lt_of_le hj (win1_2.xsize_le _ 0)
  have he : (win1_2.xinj (grid1.coords t) j : S16384.Idx) = ix1 (⟨(j 0).val, hlt⟩ : Fin 16384) := by
    funext a; fin_cases a; rfl
  show k1_pay1 _ _ (win1_2.xinj (grid1.coords t) j) = oblk V c t (win1_2.xinj (grid1.coords t) j)
  rw [he, k1_pay1_apply]
  unfold oblk
  exact congrArg (fun v => tcClass v (thr V c)) (funext fun k => fill_col V c t d ⟨(j 0).val, hlt⟩ hj k)

/-! ## The body's obligation -/

theorem body_obl (c : Dev nD) : BodyObligationLoose (dat1 V c) (defs₀ (F := F)) 𝒱₀ (none : HIx 1) Set.univ := fun t => by
  rw [bigSep_W1, bigSep_W1]
  simp only
  rw [show (dat1 V c).Φ t.castSucc = Φc c from rfl, show (dat1 V c).Φ t.succ = Φc c from rfl,
    show (dat1 V c).owesAt (none : HIx 1) t.succ = (dat1 V c).owesAt (none : HIx 1) t.castSucc from rfl]
  iintro ⟨HΦ, Ho, ⟨%d0, H0⟩, ⟨%d1, H1⟩, ⟨%d2, H2⟩⟩
  rw [before_0, before_1, before_2]
  iapply (tc_body c Set.univ (grid1.coords t) (cfg1.slots t 0) (cfg1.slots t 1) (cfg1.slots t 2) (V c main_v3)
    (win1_1.fill (grid1.coords t) d1 (xblk V c t)) d2 _)
  isplitl [H0 H1 H2]
  · isplitl [H0]; · iexact H0
    isplitl [H1]; · iexact H1
    iexact H2
  iintro ⟨H0, H1, H2⟩
  isplitl [HΦ]; · iexact HΦ
  isplitl [Ho]; · iexact Ho
  isplitl [H0]; · iexact H0
  isplitl [H1]
  · iexists d1
    rw [show (dat1 V c).after (1 : Fin 3) t = xblkFull V c t from rfl]
    unfold xblkFull
    rw [Window.cut_fill]
    iexact H1
  · iexists (k1_pay1 (win1_1.fill (grid1.coords t) d1 (xblk V c t)) (thr V c) : S16384.Idx → Elt F .i32)
    rw [show (dat1 V c).after (2 : Fin 3) t = oblk V c t from rfl, Window.fill_congr_cut win1_2 _ (cut_stored V c t d1)]
    iexact H2

/-! ## The result -/

/-- A place of the result whose column is among a point's columns inside the array is in the point's block. -/
theorem mem_blk_2 (t : Fin cfg1.N) (i : S303392.Idx) (h1 : t.val * 16384 ≤ (i 0).val)
    (h2 : (i 0).val < t.val * 16384 + win1_2.xsize (grid1.coords t) 0) : i ∈ (win1_2.blk t).view.set := by
  show i ∈ ((View.whole main_v4).slice (win1_2.rect t)).set
  rw [View.set_slice_whole, Rect.mem_set_unit]
  intro a
  fin_cases a
  show win1_2.index t 0 * 16384 ≤ (i 0).val ∧ (i 0).val < win1_2.index t 0 * 16384 + win1_2.xsize (grid1.coords t) 0
  rw [index_2]
  exact ⟨h1, h2⟩

/-- The array the call ends with. -/
theorem final_2 (c : Dev nD) : (dat1 V c).arrAt (2 : Fin 3) cfg1.N
    = (tcOut (V c main_v0 : S80x500000.Idx → F .f32) (thr V c) : S303392.Idx → BitVec 32) := by
  refine (dat1 V c).arrAt_eq_of_cover (2 : Fin 3) (tcOut (V c main_v0 : S80x500000.Idx → F .f32) (thr V c) : S303392.Idx → BitVec 32) ?_ ?_
  · intro t _
    funext j
    have hj : (j 0).val < win1_2.xsize (grid1.coords t) 0 := (j 0).isLt
    show oblk V c t (win1_2.xinj (grid1.coords t) j)
      = tcOut (V c main_v0 : S80x500000.Idx → F .f32) (thr V c) ((win1_2.rect t).emb j)
    unfold oblk tcOut
    have hv : (((win1_2.rect t).emb j) 0).val = 16384 * t.val + (j 0).val := by
      rw [Window.rect_emb_val win1_2 t j (0 : Fin 1) rfl]
      show win1_2.index t 0 * 16384 + (j 0).val = _
      rw [index_2]; omega
    rw [hv]
  · intro i
    have hi : (i 0).val < 303392 := (i 0).isLt
    exact ⟨(⟨(i 0).val / 16384, by show (i 0).val / 16384 < 19; omega⟩ : Fin 19), flush1_2 _,
      mem_blk_2 (⟨(i 0).val / 16384, by show (i 0).val / 16384 < 19; omega⟩ : Fin 19) i (Nat.div_mul_le_self _ _)
        (lt_of_lt_of_eq (show (i 0).val < (i 0).val / 16384 * 16384 + (if (i 0).val / 16384 = 18 then 8480 else 16384) by
          split <;> omega) (congrArg ((i 0).val / 16384 * 16384 + ·)
          (xsize_2 (⟨(i 0).val / 16384, by show (i 0).val / 16384 < 19; omega⟩ : Fin 19)).symm))⟩

end Cert.Proof
-- ==== Proof.Region.lean ====
module

public import proofs.«01_k».proof.Proof.TcRegion
public import proofs.«01_k».proof.Proof.Gen.KernelIdeal.Launch
public import Idealize.ShloMosaic.Lib.Pipeline.RegionsLoop

/-! # The TensorCore's call inside @main -/

@[expose] public section

set_option maxRecDepth 65536
set_option maxHeartbeats 0

noncomputable section

namespace Cert.Proof

open Cert.KernelIdeal Cert.KernelIdeal.Gen
open Idealize.ShloMosaic
open Idealize.ShloMosaic.TcCoe
open Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf kernel pipe)

variable {F : FTy → Type} [FloatOps F]

local notation "𝕄" => MT nD τ sig (HIx 1) (Elt F) ℕ UU ℕ

/-! ## The pipeline's ghost state -/

/-- The pipeline's rounds, as a part of the whole resource. -/
def EP : Emb (URounds (GSem nD τ sig) Unit) 𝕄 := (Emb.inl : Emb (URounds (GSem nD τ sig) Unit) (URounds (GSem nD τ sig) Unit × Counters)).trans embR
instance EP_landsIn : (EP (F := F)).LandsIn (upEmb : UEmb _ 𝕄) := by unfold EP; infer_instance

/-- The pipeline reads no prefetched scalar, so it has one admissible choice of them. -/
abbrev adm : (p : Fin 1) → (pcfgs (F := F) p).Adm := fun p => (cfgs p).toPCfg_adm

theorem cells_inj : Function.Injective (cellOf (nD := nD) (τ := τ) (Pipeline.pin (pcfgs (F := F)) adm)) := cellOf_inj

/-! ## The region -/

variable (V Vp : (c : Dev nD) → (b : Ref sig .tc) → Buf (Elt F) ((c : Thread nD τ).loc b))

abbrev pdats : (p : Fin 1) → (c : Dev nD) → Dat τ (Elt F) (HIx 1) ℕ UU ℕ (Pipeline.pin (pcfgs (F := F)) adm p) c := fun _ c => dat1 V c

/-- The pairs the TensorCore has recorded stand at level 8 or below. -/
def owed8 (c : Dev nD) : sProp 𝕄 :=
  iprop(∃ W, ⌜(K (F := F)).WBelow (SparseCore.T c) W 8⌝ ∗ owes (c : Thread nD τ) (0 : CellTallies nD τ sig (HIx 1)) W)

set_option backward.isDefEq.respectTransparency.types false in
/-- The call's region: entered from every array outside the scopes at `V`, left with them at `Vp`, which differs from `V`
    at the call's result alone, and there is the class of each column the TensorCore has. -/
def reg (hVp_out : ∀ c, Vp c main_v4 = tcOut (V c main_v0) (thr V c))
    (hVp_ne : ∀ c (b : Ref sig .tc), b ≠ main_v4 → Vp c b = V c b) :
    Pipeline.RegionSeg (pcfgs (F := F)) adm (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obl V c
  hwaits := Pipeline.hwaits_of_owed_zero _ _ _ _ (K (F := F)).L (K (F := F)).lev 0 fun _ _ => rfl
  pre c := iprop(unscopedBufs c (V c) ∗ owed8 c)
  post c := iprop(unscopedBufs c (Vp c) ∗ owed8 c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owed8 Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v3 (by decide)).symm
        · exact ((pdats V 0 c).arrAt_in 1 rfl _).trans (hVp_ne c main_v0 (by decide)).symm
        · exact (final_2 V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold owed8 Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

/-- The call, in the program with the SparseCores' calls: from the arrays at `V` to the arrays at `Vp`. -/
theorem wp_region [∀ e, Nonempty (Elt F e)] (hVp_out : ∀ c, Vp c main_v4 = tcOut (V c main_v0) (thr V c))
    (hVp_ne : ∀ c (b : Ref sig .tc), b ≠ main_v4 → Vp c b = V c b) (d : Dev nD) (Φ : PUnit → sProp 𝕄) :
    iprop((iprop(boundary (SparseCore.T d) ∗ unscopedBufs d (Vp d) ∗ owed8 d) -∗ Φ ⟨⟩)
        ∗ boundary (SparseCore.T d) ∗ (unscopedBufs d (V d) ∗ owed8 d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ
          (Prog.lift (.customCall (SparseCore.inner (Pipeline.entry 0)) ())) Φ := by
  have h := Pipeline.RegionSeg.wp (pcfgs (F := F)) adm (pdats V) (none : HIx 1) cells_inj EP defs₀ 𝒱₀ (K (F := F)).L (K (F := F)).lev
    (reg V Vp hVp_out hVp_ne) d none (fun _ h => nomatch h) (.ret) Φ
  rw [wp_ret] at h
  refine BIBase.Entails.trans ?_ (h.trans ((K (F := F)).wp_liftProg (D (F := F)) 𝒱 (SparseCore.T d) Set.univ none (Prog.lift (.customCall (Pipeline.entry 0) ())) Φ))
  iintro ⟨Hk, H⟩
  isplitl [Hk]
  · iintro H; imodintro; iapply Hk; iexact H
  · iexact H

end Cert.Proof
-- ==== Proof.Main.lean ====
module

public import proofs.«01_k».proof.Proof.Region
public import proofs.«01_k».proof.Proof.Launch

/-! # @main's run: the transpose, the SparseCores' call, the TensorCore's call, the concatenation -/

@[expose] public section

set_option maxRecDepth 65536
set_option maxHeartbeats 0

noncomputable section

namespace Cert.Proof

open Cert.KernelIdeal Cert.KernelIdeal.Gen
open Idealize.ShloMosaic
open Idealize.ShloMosaic.TcCoe
open Idealize.ShloMosaic.ValueIdx
open Idealize.ShloMosaic.SparseCore (T)
open Idealize.ShloMosaic.SparseCore.Cfg (HIx)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays through the run -/

abbrev a0' : DevRef τ sig := Proc.devRef .tc (main_arg0 : Ref sig .tc)
abbrev a1' : DevRef τ sig := Proc.devRef .tc (main_arg1 : Ref sig .tc)
abbrev x' : DevRef τ sig := Proc.devRef .tc (main_v0 : Ref sig .tc)
abbrev t' : DevRef τ sig := Proc.devRef .tc (main_v1 : Ref sig .tc)
abbrev o' : DevRef τ sig := Proc.devRef .tc (main_v2 : Ref sig .tc)
abbrev s' : DevRef τ sig := Proc.devRef .tc (main_v3 : Ref sig .tc)
abbrev p' : DevRef τ sig := Proc.devRef .tc (main_v4 : Ref sig .tc)
abbrev r' : DevRef τ sig := Proc.devRef .tc (main_v5 : Ref sig .tc)

/-- The transpose, the two broadcasts of the threshold, the concatenation. -/
abbrev opX : HloOp τ sig (Elt F) := StableHlo.unary main_arg0 main_v0
  ((transpose S80x500000 [1, 0] · transposes_S500000x80_S80x500000_1_0) : (⟨S500000x80, .f32⟩ : BufTy).Contents (Elt F) → (⟨S80x500000, .f32⟩ : BufTy).Contents (Elt F))
abbrev opT : HloOp τ sig (Elt F) := StableHlo.unary main_arg1 main_v1
  (broadcastInDim S16 ![] bcast_S_S16 : (⟨S_, .f32⟩ : BufTy).Contents (Elt F) → (⟨S16, .f32⟩ : BufTy).Contents (Elt F))
abbrev opS : HloOp τ sig (Elt F) := StableHlo.unary main_arg1 main_v3
  (broadcastInDim S1 ![] bcast_S_S1 : (⟨S_, .f32⟩ : BufTy).Contents (Elt F) → (⟨S1, .f32⟩ : BufTy).Contents (Elt F))
abbrev opR : HloOp τ sig (Elt F) := StableHlo.binary main_v2 main_v4 main_v5
  ((fun a b => concatenate S500000 0 [⟨S196608, a⟩, ⟨S303392, b⟩] concatenates_S196608_S303392_S500000_d0) :
    (⟨S196608, .i32⟩ : BufTy).Contents (Elt F) → (⟨S303392, .i32⟩ : BufTy).Contents (Elt F) → (⟨S500000, .i32⟩ : BufTy).Contents (Elt F))

/-- The TensorCore's arrays. -/
abbrev S8 : Finset (DevRef τ sig) := {a0', a1', x', t', o', s', p', r'}

omit [FloatOps F] in
theorem held_S8 (d : Dev nD) (W : Valuation τ sig (Elt F)) :
    (held (SparseCore.T d) S8 W : sProp 𝕄)
      = iprop((a0Loc d ↦{fullShare} W a0') ∗ (a1Loc d ↦{fullShare} W a1') ∗ (xLoc d ↦{fullShare} W x') ∗ (tLoc d ↦{fullShare} W t')
          ∗ (oLoc d ↦{fullShare} W o') ∗ (sLoc d ↦{fullShare} W s') ∗ (pLoc d ↦{fullShare} W p') ∗ rLoc d ↦{fullShare} W r') := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (xLoc d ↦{fullShare} W main_v0) ∗ (tLoc d ↦{fullShare} W main_v1)
          ∗ (oLoc d ↦{fullShare} W main_v2) ∗ (sLoc d ↦{fullShare} W main_v3) ∗ (pLoc d ↦{fullShare} W main_v4) ∗ rLoc d ↦{fullShare} W main_v5) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The TensorCore's arrays, read through its own names, are the held set. -/
theorem unscoped_held (d : Dev nD) (W : Valuation τ sig (Elt F)) :
    (unscopedBufs d (fun b => W (Proc.devRef .tc b)) : sProp 𝕄) = held (SparseCore.T d) S8 W := by
  rw [unscopedBufs_eq, held_S8]

/-- The arrays at the launch; before the SparseCores' call; after it; before the TensorCore's call; after it. -/
def V0 (d : Dev nD) : Valuation τ sig (Elt F) := fun b => m (d, b)
def V2 (d : Dev nD) : Valuation τ sig (Elt F) := (opT (F := F)).result ((opX (F := F)).result (V0 m d))
def V3 (d : Dev nD) : Valuation τ sig (Elt F) := Function.update (V2 m d) o' (o1 m d)
def V4 (d : Dev nD) : Valuation τ sig (Elt F) := (opS (F := F)).result (V3 m d)
/-- The TensorCore's part of the result. -/
def p1 (d : Dev nD) : S303392.Idx → BitVec 32 := tcOut (xT m d) (tS m d)
def V5 (d : Dev nD) : Valuation τ sig (Elt F) := Function.update (V4 m d) p' (p1 m d)
/-- The result: the SparseCores' part, then the TensorCore's. -/
def result1 (d : Dev nD) : S500000.Idx → BitVec 32 :=
  ((fun a b => concatenate S500000 0 [⟨S196608, a⟩, ⟨S303392, b⟩] concatenates_S196608_S303392_S500000_d0) :
    (⟨S196608, .i32⟩ : BufTy).Contents (Elt F) → (⟨S303392, .i32⟩ : BufTy).Contents (Elt F) → (⟨S500000, .i32⟩ : BufTy).Contents (Elt F)) (o1 m d) (p1 m d)

theorem V2_of_ne (d : Dev nD) {b : DevRef τ sig} (hx : b ≠ x') (ht : b ≠ t') : V2 m d b = m (d, b) := by
  unfold V2
  rw [(opT (F := F)).result_of_not_mem _ (b := b) (show b ∉ ({t'} : Finset (DevRef τ sig)) by simpa using ht),
    (opX (F := F)).result_of_not_mem _ (b := b) (show b ∉ ({x'} : Finset (DevRef τ sig)) by simpa using hx)]
  rfl
theorem V2_x (d : Dev nD) : V2 m d x' = xT m d := by
  unfold V2
  rw [(opT (F := F)).result_of_not_mem _ (b := x') (show x' ∉ ({t'} : Finset (DevRef τ sig)) by decide)]
  exact (StableHlo.unary_result _ _ _ _ _ _).trans rfl
theorem V2_t (d : Dev nD) : V2 m d t' = tB m d := by
  unfold V2
  refine (StableHlo.unary_result _ _ _ _ _ _).trans ?_
  rw [(opX (F := F)).result_of_not_mem _ (b := a1') (show a1' ∉ ({x'} : Finset (DevRef τ sig)) by decide)]
  rfl

theorem V3_o (d : Dev nD) : V3 m d o' = o1 m d := Function.update_self _ _ _
theorem V3_of_ne (d : Dev nD) {b : DevRef τ sig} (h : b ≠ o') : V3 m d b = V2 m d b := Function.update_of_ne h _ _

theorem V4_of_ne (d : Dev nD) {b : DevRef τ sig} (h : b ≠ s') : V4 m d b = V3 m d b :=
  (opS (F := F)).result_of_not_mem _ (b := b) (show b ∉ ({s'} : Finset (DevRef τ sig)) by simpa using h)
theorem V4_s (d : Dev nD) : (V4 m d s' : S1.Idx → F .f32) (ix1 0) = tS m d := by
  have h : V4 m d s' = (broadcastInDim S1 ![] bcast_S_S1 (m (a1Loc d)) : S1.Idx → F .f32) := by
    unfold V4
    refine (StableHlo.unary_result _ _ _ _ _ _).trans ?_
    rw [V3_of_ne m d (b := a1') (by decide), V2_of_ne m d (b := a1') (by decide) (by decide)]
  rw [h]
  unfold tS broadcastInDim
  exact congrArg _ (funext fun a => a.elim0)

theorem V5_p (d : Dev nD) : V5 m d p' = p1 m d := Function.update_self _ _ _
theorem V5_of_ne (d : Dev nD) {b : DevRef τ sig} (h : b ≠ p') : V5 m d b = V4 m d b := Function.update_of_ne h _ _

theorem hX : (opX (F := F)).bufs ⊆ S8 := show ({a0', x'} : Finset (DevRef τ sig)) ⊆ S8 by decide
theorem hT : (opT (F := F)).bufs ⊆ S8 := show ({a1', t'} : Finset (DevRef τ sig)) ⊆ S8 by decide
theorem hS : (opS (F := F)).bufs ⊆ S8 := show ({a1', s'} : Finset (DevRef τ sig)) ⊆ S8 by decide
theorem hR : (opR (F := F)).bufs ⊆ S8 := show ({o', p', r'} : Finset (DevRef τ sig)) ⊆ S8 by decide

/-- The arrays before the SparseCores' call, and after it. -/
theorem held_V2 (d : Dev nD) : (held (SparseCore.T d) S8 (V2 m d) : sProp 𝕄)
    = iprop((a0Loc d ↦{fullShare} V2 m d a0') ∗ (a1Loc d ↦{fullShare} V2 m d a1') ∗ (xLoc d ↦{fullShare} xT m d) ∗ (tLoc d ↦{fullShare} tB m d)
        ∗ (oLoc d ↦{fullShare} o0 m d) ∗ (sLoc d ↦{fullShare} V2 m d s') ∗ (pLoc d ↦{fullShare} V2 m d p') ∗ rLoc d ↦{fullShare} V2 m d r') := by
  rw [held_S8, V2_x, V2_t, show V2 m d o' = o0 m d from V2_of_ne m d (by decide) (by decide)]
theorem held_V3 (d : Dev nD) : (held (SparseCore.T d) S8 (V3 m d) : sProp 𝕄)
    = iprop((a0Loc d ↦{fullShare} V2 m d a0') ∗ (a1Loc d ↦{fullShare} V2 m d a1') ∗ (xLoc d ↦{fullShare} xT m d) ∗ (tLoc d ↦{fullShare} tB m d)
        ∗ (oLoc d ↦{fullShare} o1 m d) ∗ (sLoc d ↦{fullShare} V2 m d s') ∗ (pLoc d ↦{fullShare} V2 m d p') ∗ rLoc d ↦{fullShare} V2 m d r') := by
  rw [held_S8, V3_o, V3_of_ne m d (b := a0') (by decide), V3_of_ne m d (b := a1') (by decide), V3_of_ne m d (b := x') (by decide),
    V3_of_ne m d (b := t') (by decide), V3_of_ne m d (b := s') (by decide), V3_of_ne m d (b := p') (by decide), V3_of_ne m d (b := r') (by decide), V2_x, V2_t]
/-- The arrays after the concatenation: the arguments as launched, the result. -/
theorem held_V6 (d : Dev nD) : (held (SparseCore.T d) S8 ((opR (F := F)).result (V5 m d)) : sProp 𝕄)
    = iprop((a0Loc d ↦{fullShare} m (a0Loc d)) ∗ (a1Loc d ↦{fullShare} m (a1Loc d)) ∗ (xLoc d ↦{fullShare} (opR (F := F)).result (V5 m d) x')
        ∗ (tLoc d ↦{fullShare} (opR (F := F)).result (V5 m d) t')
        ∗ (oLoc d ↦{fullShare} (opR (F := F)).result (V5 m d) o') ∗ (sLoc d ↦{fullShare} (opR (F := F)).result (V5 m d) s')
        ∗ (pLoc d ↦{fullShare} (opR (F := F)).result (V5 m d) p') ∗ rLoc d ↦{fullShare} result1 m d) := by
  have h (b : DevRef τ sig) (hr : b ≠ r') (hp : b ≠ p') (hs : b ≠ s') (ho : b ≠ o') (hx : b ≠ x') (ht : b ≠ t') :
      (opR (F := F)).result (V5 m d) b = m (d, b) := by
    rw [(opR (F := F)).result_of_not_mem (V5 m d) (b := b) (show b ∉ ({r'} : Finset (DevRef τ sig)) by simpa using hr),
      V5_of_ne m d hp, V4_of_ne m d hs, V3_of_ne m d ho, V2_of_ne m d hx ht]
  have hres : (opR (F := F)).result (V5 m d) r' = result1 m d :=
    (StableHlo.binary_result _ _ _ _ _ _ _ _).trans (by
      rw [V5_p, V5_of_ne m d (b := o') (by decide), V4_of_ne m d (b := o') (by decide), V3_o]; rfl)
  rw [held_S8, hres, h a0' (by decide) (by decide) (by decide) (by decide) (by decide) (by decide),
    h a1' (by decide) (by decide) (by decide) (by decide) (by decide) (by decide)]

/-! ## The launch's ghost state -/

def u₀ : UU := (initOf (K (F := F)).hsCells (K (F := F)).hsToks,
  (initOf (Pipeline.cells (Pipeline.pin (pcfgs (F := F)) adm) cells_inj) (Pipeline.launchToks (Pipeline.pin (pcfgs (F := F)) adm) cells_inj), 1))

/-- What @main gets of it: the pipeline's cells and tokens. -/
abbrev G (d : Dev nD) : sProp 𝕄 := iprop(Pipeline.cellsGhost (Pipeline.pin (pcfgs (F := F)) adm) EP 0 d ∗ Pipeline.toksInit (Pipeline.pin (pcfgs (F := F)) adm) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb embR _ _) $$ HR
  icases H with ⟨HP, -⟩
  ihave HP' := (show BI.own ((Emb.inl.trans embR).toFun _) ⊢ BI.own ((EP (F := F)).toFun _) from .rfl) $$ HP
  imod (Pipeline.fund_ghost (Pipeline.pin (pcfgs (F := F)) adm) EP cells_inj) $$ HP' with ⟨Hc, Ht⟩
  imodintro
  isplitl [HH]; · iexact HH
  isplitl [Hc Ht]
  · rw [bigSep_sep',
      show (bigSep Finset.univ fun c : Dev nD => bigSep Finset.univ fun p => Pipeline.cellsGhost (Pipeline.pin (pcfgs (F := F)) adm) EP p c)
        = (bigSep Finset.univ fun c : Dev nD => Pipeline.cellsGhost (Pipeline.pin (pcfgs (F := F)) adm) EP 0 c : sProp 𝕄) from
        bigSep_congr fun _ _ => bigSep_univ_of_subsingleton (0 : Fin 1),
      show (bigSep Finset.univ fun c : Dev nD => bigSep Finset.univ fun p => Pipeline.toksInit (Pipeline.pin (pcfgs (F := F)) adm) EP p c)
        = (bigSep Finset.univ fun c : Dev nD => Pipeline.toksInit (Pipeline.pin (pcfgs (F := F)) adm) EP 0 c : sProp 𝕄) from
        bigSep_congr fun _ _ => bigSep_univ_of_subsingleton (0 : Fin 1)]
    exact .rfl
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

/-! ## @main on the TensorCore -/

/-- What @main leaves: the arguments as launched, the result. -/
abbrev FIN (d : Dev nD) : sProp 𝕄 := iprop((a0Loc d ↦{fullShare} m (a0Loc d)) ∗ (a1Loc d ↦{fullShare} m (a1Loc d)) ∗ rLoc d ↦{fullShare} result1 m d)

/-- The arrays through the TensorCore's names, before its call and after. -/
abbrev VT4 (c : Dev nD) (b : Ref sig .tc) : Buf (Elt F) ((c : Thread nD τ).loc b) := V4 m c (Proc.devRef .tc b)
abbrev VT5 (c : Dev nD) (b : Ref sig .tc) : Buf (Elt F) ((c : Thread nD τ).loc b) := V5 m c (Proc.devRef .tc b)

theorem VT5_out (c : Dev nD) : VT5 m c main_v4 = tcOut (VT4 m c main_v0) (thr (VT4 m) c) := by
  have h1 : VT4 m c main_v0 = xT m c := (V4_of_ne m c (b := x') (by decide)).trans ((V3_of_ne m c (b := x') (by decide)).trans (V2_x m c))
  have h2 : thr (VT4 m) c = tS m c := V4_s m c
  rw [h1, h2]; exact V5_p m c
theorem VT5_ne (c : Dev nD) (b : Ref sig .tc) (h : b ≠ main_v4) : VT5 m c b = VT4 m c b :=
  V5_of_ne m c fun e => h (Proc.devRef_injective .tc e)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) S8 (V0 m d) from unscoped_held d (V0 m d)]
  simp only [main, wp_bind, wp_pure]
  iintro ⟨#Hctx, Hst, ⟨Hb, Hheld, Hts, -⟩, HG⟩
  -- the transpose, the threshold's sixteen copies
  iapply (wp_hlo_within 𝒱 (SparseCore.T d) none Set.univ (op := opX) (S := S8) hX (V := V0 m d)) $$ [Hb Hheld]
  · isplitl [Hb] <;> iassumption
  iintro ⟨Hb, Hheld⟩
  rw [wp_ret]; imodintro
  iapply (wp_hlo_within 𝒱 (SparseCore.T d) none Set.univ (op := opT) (S := S8) hT (V := (opX (F := F)).result (V0 m d))) $$ [Hb Hheld]
  · isplitl [Hb] <;> iassumption
  iintro ⟨Hb, Hheld⟩
  rw [wp_ret]; imodintro
  -- the SparseCores' call
  ihave Hh := (show held (SparseCore.T d) S8 ((opT (F := F)).result ((opX (F := F)).result (V0 m d))) ⊢ _ from Entails.of_eq (held_V2 (F := F) m d)) $$ Hheld
  icases Hh with ⟨H0, H1, Hx, Ht, Ho, Hs, Hp, Hr⟩
  iapply ((K (F := F)).wp_run (D (F := F)) 𝒱 (EH := EH) (P := P m) κ d 0) $$ [Hst Hb Hts HG H0 H1 Hx Ht Ho Hs Hp Hr]
  isplitr; · iexact Hctx
  isplitl [Hst]; · iexact Hst
  isplitl [Hx Ht Ho]
  · rw [st0_eq]
    isplitl [Hx]; · iexact Hx
    isplitl [Ht]; · iexact Ht
    iexact Ho
  iintro ⟨Hst, Hdn⟩
  ihave Hdn' := (Entails.of_eq (dn0_eq m d)) $$ Hdn
  icases Hdn' with ⟨Hx, Ht, Ho⟩
  -- the threshold for the TensorCore
  iapply (wp_hlo_within 𝒱 (SparseCore.T d) none Set.univ (op := opS) (S := S8) hS (V := V3 m d)) $$ [Hb H0 H1 Hx Ht Ho Hs Hp Hr]
  · isplitl [Hb]; · iexact Hb
    rw [held_V3]
    isplitl [H0]; · iexact H0
    isplitl [H1]; · iexact H1
    isplitl [Hx]; · iexact Hx
    isplitl [Ht]; · iexact Ht
    isplitl [Ho]; · iexact Ho
    isplitl [Hs]; · iexact Hs
    isplitl [Hp]; · iexact Hp
    iexact Hr
  iintro ⟨Hb, Hheld⟩
  rw [wp_ret]; imodintro
  -- the TensorCore's call
  unfold SparseCore.Cfg.tcSt
  icases Hst with ⟨⟨%W, %hW, HO⟩, Hst⟩
  icases HG with ⟨Hcg, Htg⟩
  ihave #Hlev := ((K (F := F)).ctx_levAts (EH := EH) (P := P m) κ) $$ Hctx
  have hO : (K (F := F)).Otc d ((0 : Fin 1).val + 1) = 0 := (K (F := F)).Otc_end d (le_refl 1)
  rw [hO]
  iapply (wp_region (VT4 m) (VT5 m) (VT5_out m) (VT5_ne m) d)
  isplitl [Hst Hts]
  rotate_left
  · isplitl [Hb]; · iexact Hb
    isplitl [Hheld HO]
    · isplitl [Hheld]
      · iapply (Entails.of_eq (unscoped_held d (V4 m d)).symm); iexact Hheld
      unfold owed8
      iexists W; isplitr; · ipureintro; exact hW
      iexact HO
    isplitr; · iexact Hlev
    isplitl [Hcg] <;> iassumption
  iintro ⟨Hb, Hub, HO⟩
  ihave Hheld := (Entails.of_eq (unscoped_held d (V5 m d))) $$ Hub
  -- the concatenation
  iapply (wp_hlo_within 𝒱 (SparseCore.T d) none Set.univ (op := opR) (S := S8) hR (V := V5 m d)) $$ [Hb Hheld]
  · isplitl [Hb] <;> iassumption
  iintro ⟨Hb, Hheld⟩
  ihave Hh := (Entails.of_eq (held_V6 (F := F) m d)) $$ Hheld
  icases Hh with ⟨H0, H1, -, -, -, -, -, Hr⟩
  rw [wp_ret]; imodintro; imodintro
  isplitl [Hst HO]
  · unfold owed8
    icases HO with ⟨%W', %hW', HO⟩
    rw [(K (F := F)).Otc_end d (le_refl 1)]
    isplitl [HO]
    · iexists W'; isplitr; · ipureintro; exact hW'
      iexact HO
    iexact Hst
  isplitr [Hb Hts]
  · isplitl [H0]; · iexact H0
    isplitl [H1]; · iexact H1
    iexact Hr
  isplitl [Hb] <;> iassumption

/-! ## The run -/

/-- What the claims read of device `d`'s final state. -/
def fq (d : Dev nD) (s : Phys nD τ sig (Elt F)) : Prop :=
  s.mem.mem (a0Loc d) = m (a0Loc d) ∧ s.mem.mem (a1Loc d) = m (a1Loc d) ∧ s.mem.mem (rLoc d) = result1 m d

theorem hfin (d : Dev nD) (s : Phys nD τ sig (Elt F)) : iprop(FIN m d ∗ SI s) ⊢ (⌜fq m d s⌝ : sProp 𝕄) := by
  iintro ⟨⟨H0, H1, Hr⟩, HSI⟩
  ihave H := (persistent_entails_right (SI_pointsTo_agree (st := s) (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s) (ℓ := a1Loc d) (I := Finset.univ) (q := fullShare) (f := m (a1Loc d)))) $$ [HSI H1]
  · isplitl [HSI] <;> iassumption
  icases H with ⟨%h1, HSI, -⟩
  ihave H := (SI_pointsTo_agree (st := s) (ℓ := rLoc d) (I := Finset.univ) (q := fullShare) (f := result1 m d)) $$ [HSI Hr]
  · isplitl [HSI] <;> iassumption
  icases H with %hr
  ipureintro
  have e0 : s.mem.mem (a0Loc d) = m (a0Loc d) := funext fun (i : Idx (a0Loc d)) => h0 i (by simp)
  have e1 : s.mem.mem (a1Loc d) = m (a1Loc d) := funext fun (i : Idx (a1Loc d)) => h1 i (by simp)
  have er : s.mem.mem (rLoc d) = result1 m d := funext fun (i : Idx (rLoc d)) => hr i (by simp)
  exact ⟨e0, e1, er⟩

/-- The arguments as launched and the result at every device, every semaphore at zero. -/
def QC : PUnit × MemSt nD τ sig (Elt F) → Prop := fun r =>
  (∀ c : Dev nD, r.2.mem (a0Loc c) = m (a0Loc c) ∧ r.2.mem (a1Loc c) = m (a1Loc c) ∧ r.2.mem (rLoc c) = result1 m c) ∧ r.2.sem = fun _ => 0

/-- Every run of the program ends, without a fault, in such a state. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof
-- ==== Proof.RefRun.lean ====
module

public import proofs.«01_k».proof.Defs
public import Idealize.ShloMosaic.Lib.StableHlo.Run
public import Idealize.ShloMosaic.Lib.Quiescent
public import proofs.«01_k».proof.Proof.Gen.ReferenceIdeal

/-! # The reference's run: its operations in a line, and the result they leave -/

@[expose] public section

set_option maxRecDepth 65536
set_option maxHeartbeats 0

noncomputable section

namespace Cert.Proof.Reference

open Cert.ReferenceIdeal Cert.ReferenceIdeal.Gen
open Idealize.ShloMosaic Idealize.SL.Sem
open Idealize.ShloMosaic.TcCoe
open Idealize.ShloMosaic.StableHlo

variable {F : FTy → Type} [FloatOps F]

/-- The operations, in order. -/
abbrev ops : List (HloOp τ sig (Elt F)) :=
  [ nullary main_cst (constant S_ .f32 0xFF800000#32),
    binary main_arg0 main_cst main_v0 (fun x v => Host.reduce FloatOps.maximumf x v reducesTo_S500000x80_S500000_d1 h_S_),
    TRef.nullary main_call0.v0 (iotaInDim S500000x80 32 1),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S500000x80_S500000_d1 h_S_ j).1),
    TRef.quaternary (.of main_arg0) main_call0.v0 main_call0.cst main_call0.c main_call0.v1_1
      (fun x y u v j => (Host.argReduce reducer_argmax_f32_i32 x y u v reducesTo_S500000x80_S500000_d1 h_S_ j).2),
    unary main_arg1 main_v2 (broadcastInDim S500000 ![] bcast_S_S500000),
    binary main_v0 main_v2 main_v3 (cmpf .olt),
    nullary main_c (constantI S_ 32 0#32),
    unary main_c main_v4 (broadcastInDim S500000 ![] bcast_S_S500000),
    TRef.ternary (.of main_v3) (.of main_v4) (.of main_v1) main_call1.v0 select ]

theorem main_eq (c : Dev nD) : main (F := F) c = seq ops := by
  simp only [main, fn_argmax.body, fn_where.body, seq, bind_assoc, pure_bind]
  rfl

/-- The result: 0 where a row's maximum is below the threshold, else the row's first greatest column. -/
def out (x : S500000x80.Idx → F .f32) (t : S_.Idx → F .f32) : S500000.Idx → BitVec 32 :=
  select (cmpf .olt (Host.reduce FloatOps.maximumf x (constant S_ .f32 0xFF800000#32) reducesTo_S500000x80_S500000_d1 h_S_)
      (broadcastInDim S500000 ![] bcast_S_S500000 t))
    (broadcastInDim S500000 ![] bcast_S_S500000 (constantI S_ 32 0#32))
    (fun j => (Host.argReduce reducer_argmax_f32_i32 x (iotaInDim S500000x80 32 1) (constant S_ .f32 0xFF800000#32) (constantI S_ 32 0#32)
      reducesTo_S500000x80_S500000_d1 h_S_ j).2)

theorem out_eq (V : Valuation τ sig (Elt F)) :
    after ops V (main_v5 : DevRef τ sig) = out (V (main_arg0 : DevRef τ sig)) (V (main_arg1 : DevRef τ sig)) := by
  after_results_simp
  simp only [TRef.ofBuf_toBuf]
  unfold out
  rw [show ∀ x, (main_call1.v0).toBuf x = x from fun _ => rfl,
    show ∀ x, (TRef.of (T := ⟨S500000, .i1⟩) main_v3).ofBuf (Val := Elt F) x = x from fun _ => rfl,
    show ∀ x, (TRef.of (T := ⟨S500000, .i32⟩) main_v4).ofBuf (Val := Elt F) x = x from fun _ => rfl,
    show ∀ x, (TRef.of (T := ⟨S500000x80, .f32⟩) main_arg0).ofBuf (Val := Elt F) x = x from fun _ => rfl]
theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., nullary_bufs_sub .., nullary_bufs_sub .., quaternary_bufs_sub ..,
    quaternary_bufs_sub .., unary_bufs_sub .., binary_bufs_sub .., nullary_bufs_sub .., unary_bufs_sub .., ternary_bufs_sub ..⟩

/-- Every run of the reference ends, without a fault, with each array at what the operations make of the launch's. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Reference
-- ==== Proof.First.lean ====
module

public import proofs.«01_k».proof.Proof.Lane
public import proofs.«01_k».proof.Proof.TcValue
public import Idealize.ShloMosaic.PureOps.Ideal.Laws

/-! # Over the extended reals: the first greatest of eighty scores, as both kernels find it -/

@[expose] public section

set_option maxRecDepth 65536

noncomputable section

namespace Cert.Proof

open Idealize.ShloMosaic

/-- Column `k` is the first of the eighty where `v` is greatest. -/
def IsFirst (v : ℕ → Ideal .f32) (k : ℕ) : Prop :=
  k < 80 ∧ ∀ j < 80, (v j : EReal) < v k ∨ (v j = v k ∧ k ≤ j)

/-- There is one such column. -/
theorem IsFirst.unique {v : ℕ → Ideal .f32} {k k' : ℕ} (h : IsFirst v k) (h' : IsFirst v k') : k = k' := by
  rcases h.2 k' h'.1 with h1 | ⟨h1, h2⟩ <;> rcases h'.2 k h.1 with h3 | ⟨h3, h4⟩
  · exact absurd h1 (lt_asymm h3)
  · exact absurd h3.symm (ne_of_lt h1)
  · exact absurd h1.symm (ne_of_lt h3)
  · omega

/-! ## A fold that keeps one of two by an order -/

/-- A fold whose body answers one of its two arguments, and one that stands above both, answers the start or an
    element of the list, and one that stands above them all. -/
theorem foldl_keeps {α : Type} (P : α → Prop) (le : α → α → Prop) (refl : ∀ a, le a a) (trans : ∀ a b c, le a b → le b c → le a c)
    (f : α → α → α) (hf : ∀ a b, P a → P b → (f a b = a ∨ f a b = b) ∧ le a (f a b) ∧ le b (f a b)) :
    ∀ (l : List α) (i : α), P i → (∀ x ∈ l, P x) →
      (l.foldl f i = i ∨ l.foldl f i ∈ l) ∧ le i (l.foldl f i) ∧ ∀ x ∈ l, le x (l.foldl f i)
  | [], i, _, _ => ⟨.inl rfl, refl _, fun _ h => nomatch h⟩
  | x :: l, i, hi, hl => by
    obtain ⟨h1, h2, h3⟩ := hf i x hi (hl x (.head _))
    have hP : P (f i x) := by rcases h1 with h | h <;> rw [h]; exacts [hi, hl x (.head _)]
    obtain ⟨g1, g2, g3⟩ := foldl_keeps P le refl trans f hf l (f i x) hP fun y hy => hl y (.tail _ hy)
    rw [List.foldl_cons]
    refine ⟨?_, trans _ _ _ h2 g2, ?_⟩
    · rcases g1 with g | g
      · rw [g]; rcases h1 with h | h
        · exact .inl h
        · exact .inr (by rw [h]; exact .head _)
      · exact .inr (.tail _ g)
    · intro y hy
      rcases List.mem_cons.mp hy with rfl | hy
      · exact trans _ _ _ h3 g2
      · exact g3 y hy

/-! ## Words and comparisons -/

theorem ofNat_slt {a b : ℕ} (ha : a < 2 ^ 31) (hb : b < 2 ^ 31) : (BitVec.ofNat 32 a).slt (BitVec.ofNat 32 b) = decide (a < b) := by
  rw [BitVec.slt_eq_decide, BitVec.toInt_eq_toNat_cond, BitVec.toInt_eq_toNat_cond, BitVec.toNat_ofNat, BitVec.toNat_ofNat,
    Nat.mod_eq_of_lt (by omega), Nat.mod_eq_of_lt (by omega), if_pos (by omega), if_pos (by omega)]
  exact decide_eq_decide.mpr Int.ofNat_lt

theorem ofBool_or (p q : Bool) : IntOp.ori (BitVec.ofBool p) (BitVec.ofBool q) = BitVec.ofBool (p || q) := by
  cases p <;> cases q <;> decide
theorem ofBool_and (p q : Bool) : IntOp.andi (BitVec.ofBool p) (BitVec.ofBool q) = BitVec.ofBool (p && q) := by
  cases p <;> cases q <;> decide
theorem select_ofBool {α : Type} (p : Bool) (a b : α) : Scalar.select (BitVec.ofBool p) a b = if p = true then a else b := by
  cases p <;> rfl

theorem ogt_ideal (a b : Ideal .f32) : FloatOps.cmpf .ogt a b = BitVec.ofBool (decide ((b : EReal) < a)) := rfl
theorem olt_ideal (a b : Ideal .f32) : FloatOps.cmpf .olt a b = BitVec.ofBool (decide ((a : EReal) < b)) := rfl
theorem oeq_ideal (a b : Ideal .f32) : FloatOps.cmpf .oeq a b = BitVec.ofBool (decide (a = b)) := rfl
theorem une_ideal (a b : Ideal .f32) : FloatOps.cmpf .une a b = BitVec.ofBool (decide (a ≠ b)) := rfl
theorem max_ideal (a b : Ideal .f32) : FloatOps.maximumf a b = max (a : EReal) b := rfl
/-- The word of minus infinity is the least extended real. -/
theorem negInf_ideal : (FloatOps.ofBits .f32 0xFF800000#32 : Ideal .f32) = (⊥ : EReal) := by
  show Ideal.ofBits .f32 0xFF800000#32 = _
  simp [Ideal.ofBits, Ideal.ieee]

/-! ## The SparseCore's four chains -/

/-- `p` is the greatest of `v` over the columns in `s`, with the first column in `s` where it is. -/
def BestOn (v : ℕ → Ideal .f32) (s : ℕ → Prop) (p : Ideal .f32 × BitVec 32) : Prop :=
  ∃ k, s k ∧ k < 80 ∧ p = (v k, BitVec.ofNat 32 k) ∧ ∀ j, s j → (v j : EReal) < v k ∨ (v j = v k ∧ k ≤ j)

/-- Merging two such pairs gives one over both sets of columns. -/
theorem merge_best {v : ℕ → Ideal .f32} {s s' : ℕ → Prop} {p q : Ideal .f32 × BitVec 32} (hp : BestOn v s p) (hq : BestOn v s' q) :
    BestOn v (fun j => s j ∨ s' j) (merge p q) := by
  obtain ⟨k, hk, hk80, rfl, hmax⟩ := hp
  obtain ⟨k', hk', hk80', rfl, hmax'⟩ := hq
  unfold merge wins
  simp only [ogt_ideal, oeq_ideal, IntOp.cmpi, ofNat_slt (show k' < 2 ^ 31 by omega) (show k < 2 ^ 31 by omega), ofBool_and, ofBool_or,
    select_ofBool, Bool.or_eq_true, Bool.and_eq_true, decide_eq_true_eq]
  by_cases h : (v k : EReal) < v k' ∨ (v k' = v k ∧ k' < k)
  · rw [if_pos h, if_pos h]
    refine ⟨k', .inr hk', hk80', rfl, fun j hj => ?_⟩
    rcases hj with hj | hj
    · rcases h with h | ⟨h, hlt⟩
      · rcases hmax j hj with g | ⟨g, -⟩
        · exact .inl (lt_trans g h)
        · exact .inl (g ▸ h)
      · rcases hmax j hj with g | ⟨g, g'⟩
        · exact .inl (h ▸ g)
        · exact .inr ⟨g.trans h.symm, by omega⟩
    · exact hmax' j hj
  · rw [if_neg h, if_neg h]
    push Not at h
    obtain ⟨h1, h2⟩ := h
    refine ⟨k, .inl hk, hk80, rfl, fun j hj => ?_⟩
    rcases hj with hj | hj
    · exact hmax j hj
    · rcases hmax' j hj with g | ⟨g, g'⟩
      · exact .inl (lt_of_lt_of_le g h1)
      · rcases lt_or_eq_of_le h1 with e | e
        · exact .inl (by rw [g]; exact e)
        · exact .inr ⟨g.trans e, (h2 e).trans g'⟩

/-- Chain `k` after `n` further steps is the best of its columns. -/
theorem chain_best (v : ℕ → Ideal .f32) (k : ℕ) (hk : k < 4) : ∀ n ≤ 19, BestOn v (fun j => ∃ i ≤ n, j = k + 4 * i) (chain v k n)
  | 0, _ => ⟨k, ⟨0, le_refl _, rfl⟩, by omega, rfl, fun j ⟨i, hi, hj⟩ => .inr (by
      have : j = k := by omega
      rw [this]; exact ⟨rfl, le_refl _⟩)⟩
  | n + 1, hn => by
    obtain ⟨c, ⟨i, hi, hc⟩, h80, he, hmax⟩ := chain_best v k hk n (by omega)
    unfold chain
    rw [he]
    simp only [ogt_ideal, max_ideal, select_ofBool, decide_eq_true_eq]
    by_cases h : (v c : EReal) < v (k + 4 * (n + 1))
    · rw [if_pos h, max_eq_right h.le]
      refine ⟨k + 4 * (n + 1), ⟨n + 1, le_refl _, rfl⟩, by omega, rfl, fun j ⟨i', hi', hj⟩ => ?_⟩
      rcases Nat.lt_or_ge n i' with e | e
      · exact .inr (by
          have : j = k + 4 * (n + 1) := by omega
          rw [this]; exact ⟨rfl, le_refl _⟩)
      · rcases hmax j ⟨i', e, hj⟩ with g | ⟨g, -⟩
        · exact .inl (lt_trans g h)
        · exact .inl (g ▸ h)
    · rw [if_neg h, max_eq_left (not_lt.mp h)]
      refine ⟨c, ⟨i, by omega, hc⟩, h80, rfl, fun j ⟨i', hi', hj⟩ => ?_⟩
      rcases Nat.lt_or_ge n i' with e | e
      · have hj' : j = k + 4 * (n + 1) := by omega
        rw [hj']
        rcases lt_or_eq_of_le (not_lt.mp h) with g | g
        · exact .inl g
        · exact .inr ⟨g, by omega⟩
      · exact hmax j ⟨i', e, hj⟩

/-- The four chains merged are the first greatest of the eighty. -/
theorem best_first (v : ℕ → Ideal .f32) : ∃ k, IsFirst v k ∧ best v = (v k, BitVec.ofNat 32 k) := by
  obtain ⟨k, -, h80, he, hmax⟩ := merge_best (merge_best (merge_best (chain_best v 0 (by omega) 19 (le_refl _)) (chain_best v 1 (by omega) 19 (le_refl _)))
    (chain_best v 2 (by omega) 19 (le_refl _))) (chain_best v 3 (by omega) 19 (le_refl _))
  refine ⟨k, ⟨h80, fun j hj => hmax j ?_⟩, he⟩
  have hd : j = j % 4 + 4 * (j / 4) := (Nat.mod_add_div j 4).symm
  have h4 : j / 4 ≤ 19 := by omega
  rcases (by omega : j % 4 = 0 ∨ j % 4 = 1 ∨ j % 4 = 2 ∨ j % 4 = 3) with h | h | h | h
  · exact .inl (.inl (.inl ⟨j / 4, h4, by omega⟩))
  · exact .inl (.inl (.inr ⟨j / 4, h4, by omega⟩))
  · exact .inl (.inr ⟨j / 4, h4, by omega⟩)
  · exact .inr ⟨j / 4, h4, by omega⟩

/-- The class the SparseCore writes: the first greatest's, 0 where it is below the threshold. -/
theorem scClass_first {v : ℕ → Ideal .f32} {k : ℕ} (hk : IsFirst v k) (t : Ideal .f32) :
    scClass v t = Scalar.select (FloatOps.cmpf .olt (v k) t) 0#32 (BitVec.ofNat 32 k) := by
  obtain ⟨k', h, he⟩ := best_first v
  unfold scClass
  rw [he, h.unique hk]

/-! ## The TensorCore's maximum and the least class that has it -/

theorem tcMax_first {v : ℕ → Ideal .f32} {k : ℕ} (hk : IsFirst v k) : tcMax v = v k := by
  have hle : ∀ (l : List (Fin 80)) (i : EReal), i ≤ v k → l.foldl (fun (r : EReal) c => max r (v c.val)) i ≤ v k := by
    intro l
    induction l with
    | nil => exact fun i h => h
    | cons c l ih =>
      intro i h
      refine ih _ (max_le h ?_)
      rcases hk.2 c.val c.isLt with g | ⟨g, -⟩
      · exact g.le
      · exact le_of_eq g
  have hge0 : ∀ (l : List (Fin 80)) (i : EReal), i ≤ l.foldl (fun (r : EReal) c => max r (v c.val)) i := by
    intro l
    induction l with
    | nil => exact fun i => le_refl _
    | cons c l ih => exact fun i => (le_max_left _ _).trans (ih _)
  have hge : ∀ (l : List (Fin 80)) (i : EReal) (c : Fin 80), c ∈ l → (v c.val : EReal) ≤ l.foldl (fun (r : EReal) c => max r (v c.val)) i := by
    intro l
    induction l with
    | nil => exact fun i c h => nomatch h
    | cons c l ih =>
      intro i c' h
      rcases List.mem_cons.mp h with rfl | h
      · exact (le_max_right _ _).trans (hge0 l _)
      · exact ih _ _ h
  unfold tcMax
  rw [negInf_ideal]
  exact le_antisymm (hle _ _ bot_le) (hge _ _ ⟨k, hk.1⟩ (List.mem_finRange _))

/-- The least of words below 2³¹ keeps one of its two arguments, the lesser. -/
theorem tcClass_first {v : ℕ → Ideal .f32} {k : ℕ} (hk : IsFirst v k) (t : Ideal .f32) :
    tcClass v t = Scalar.select (FloatOps.cmpf .olt (v k) t) 0#32 (BitVec.ofNat 32 k) := by
  have hmin : ∀ a b : ℕ, a < 2 ^ 31 → b < 2 ^ 31 → IntOp.minsi (BitVec.ofNat 32 a) (BitVec.ofNat 32 b) = BitVec.ofNat 32 (min a b) := by
    intro a b ha hb
    unfold IntOp.minsi
    rw [ofNat_slt ha hb]
    by_cases h : a < b
    · rw [if_pos (by simpa using h), min_eq_left h.le]
    · rw [if_neg (by simpa using h), min_eq_right (not_lt.mp h)]
  let w : Fin 80 → ℕ := fun c => if v c.val = v k then c.val else 80
  have hw : ∀ c : Fin 80, w c < 2 ^ 31 := fun c => by dsimp only [w]; split <;> omega
  have hfold : ∀ (l : List (Fin 80)) (a : ℕ), a < 2 ^ 31 →
      l.foldl (fun r c => IntOp.minsi r (Scalar.select (FloatOps.cmpf .oeq (v c.val) (v k)) (BitVec.ofNat 32 c.val) 80#32)) (BitVec.ofNat 32 a)
        = BitVec.ofNat 32 (l.foldl (fun r c => min r (w c)) a) := by
    intro l
    induction l with
    | nil => exact fun a _ => rfl
    | cons c l ih =>
      intro a ha
      rw [List.foldl_cons, List.foldl_cons, oeq_ideal, select_ofBool,
        show (if decide (v c.val = v k) = true then BitVec.ofNat 32 c.val else 80#32) = BitVec.ofNat 32 (w c) by
          dsimp only [w]; by_cases h : v c.val = v k <;> simp [h],
        hmin a (w c) ha (hw c)]
      exact ih _ (lt_of_le_of_lt (min_le_left _ _) ha)
  have hkw : w ⟨k, hk.1⟩ = k := if_pos rfl
  have hk' : ∀ c : Fin 80, k ≤ w c := by
    intro c
    dsimp only [w]
    split
    · rename_i e
      rcases hk.2 c.val c.isLt with g | ⟨-, g⟩
      · exact absurd e (ne_of_lt g)
      · exact g
    · have := hk.1; omega
  have hlow : ∀ (l : List (Fin 80)) (a : ℕ), k ≤ a → k ≤ l.foldl (fun r c => min r (w c)) a := by
    intro l
    induction l with
    | nil => exact fun a h => h
    | cons c l ih => exact fun a h => ih _ (le_min h (hk' c))
  have hup0 : ∀ (l : List (Fin 80)) (a : ℕ), l.foldl (fun r c => min r (w c)) a ≤ a := by
    intro l
    induction l with
    | nil => exact fun a => le_refl _
    | cons c l ih => exact fun a => (ih _).trans (min_le_left _ _)
  have hup : ∀ (l : List (Fin 80)) (a : ℕ) (c : Fin 80), c ∈ l → l.foldl (fun r c => min r (w c)) a ≤ w c := by
    intro l
    induction l with
    | nil => exact fun a c h => nomatch h
    | cons c l ih =>
      intro a c' h
      rcases List.mem_cons.mp h with rfl | h
      · exact (hup0 l _).trans (min_le_right _ _)
      · exact ih _ _ h
  have hall : ∀ a : ℕ, a < 2 ^ 31 → k ≤ a → (List.finRange 80).foldl (fun r c => IntOp.minsi r (Scalar.select (FloatOps.cmpf .oeq (v c.val) (v k)) (BitVec.ofNat 32 c.val) 80#32)) (BitVec.ofNat 32 a)
      = BitVec.ofNat 32 k := by
    intro a ha hka
    rw [hfold _ a ha]
    exact congrArg (BitVec.ofNat 32) (le_antisymm (hkw ▸ hup _ a _ (List.mem_finRange _)) (hlow _ a hka))
  unfold tcClass
  rw [tcMax_first hk]
  exact congrArg (Scalar.select _ _) (hall 2147483647 (by norm_num) (by have := hk.1; omega))

end Cert.Proof
-- ==== Proof.RefValue.lean ====
module

public import proofs.«01_k».proof.Proof.RefRun
public import proofs.«01_k».proof.Proof.First
public import Idealize.ShloMosaic.PureOps.Reduce
public import Idealize.ShloMosaic.Lib.ValueIdx

/-! # The reference's result over the extended reals -/

@[expose] public section

set_option maxRecDepth 65536

noncomputable section

namespace Cert.Proof.Reference

open Cert.ReferenceIdeal Cert.ReferenceIdeal.Gen
open Idealize.ShloMosaic
open Idealize.ShloMosaic.ValueIdx

/-- The place of row `r`, column `c`. -/
def at2 (r : Fin 500000) (c : ℕ) : S500000x80.Idx := fun a => match a with
  | 0 => r
  | 1 => ⟨c % 80, Nat.mod_lt _ (by decide)⟩

/-- The scores of row `r`. -/
def row (x : S500000x80.Idx → Ideal .f32) (r : Fin 500000) : ℕ → Ideal .f32 := fun c => x (at2 r c)

/-- A place lies over row `j` exactly when its row is that one. -/
theorem drop_iff (i : S500000x80.Idx) (j : S500000.Idx) :
    Shape.ReducesTo.drop reducesTo_S500000x80_S500000_d1 i = j ↔ i = at2 (j 0) (i 1).val := by
  have hd : ((Shape.ReducesTo.drop reducesTo_S500000x80_S500000_d1 i) 0 : ℕ) = i 0 :=
    Shape.ReducesTo.drop_apply_val_of_eq _ i 0 0
  constructor
  · intro h
    refine funext fun a => Fin.ext ?_
    match a with
    | 0 => exact hd.symm.trans (congrArg (fun k : S500000.Idx => (k 0).val) h)
    | 1 => exact (Nat.mod_eq_of_lt (i 1).isLt).symm
  · intro h
    refine funext fun a => Fin.ext ?_
    match a with
    | 0 => exact hd.trans (congrArg (fun k : S500000x80.Idx => (k 0).val) h)

theorem drop_at2 (j : S500000.Idx) (c : ℕ) : Shape.ReducesTo.drop reducesTo_S500000x80_S500000_d1 (at2 (j 0) c) = j :=
  (drop_iff _ j).mpr (funext fun a => Fin.ext (by
    match a with
    | 0 => rfl
    | 1 => exact (Nat.mod_mod _ _).symm))

/-- The row's maximum is its first greatest score. -/
theorem max_first (x : S500000x80.Idx → Ideal .f32) (j : S500000.Idx) {k : ℕ} (hk : IsFirst (row x (j 0)) k) :
    Host.reduce FloatOps.maximumf x (constant S_ .f32 0xFF800000#32) reducesTo_S500000x80_S500000_d1 h_S_ j = row x (j 0) k := by
  rw [Host.reduce_eq_foldl, ← List.foldl_map]
  obtain ⟨h1, h2, h3⟩ := foldl_keeps (fun _ : Ideal .f32 => True) (fun a b => (a : EReal) ≤ b) (fun a => le_refl (a : EReal)) (fun _ _ _ => le_trans (α := EReal))
    FloatOps.maximumf (fun a b _ _ => ⟨max_choice (a : EReal) b, le_max_left (a : EReal) b, le_max_right (a : EReal) b⟩)
    (((List.finRange S500000x80.numel).map S500000x80.rowMajor.symm |>.filter fun i => Shape.ReducesTo.drop reducesTo_S500000x80_S500000_d1 i = j).map x)
    (constant S_ .f32 0xFF800000#32 (Shape.Idx.first h_S_)) trivial (fun _ _ => trivial)
  refine le_antisymm (α := EReal) ?_ ?_
  · rcases h1 with h | h
    · rw [h]; show (FloatOps.ofBits .f32 0xFF800000#32 : Ideal .f32) ≤ (_ : EReal)
      rw [negInf_ideal]; exact bot_le
    · obtain ⟨i, hi, he⟩ := List.mem_map.mp h
      rw [← he]
      have hd := (drop_iff i j).mp (of_decide_eq_true (List.mem_filter.mp hi).2)
      rw [hd]
      rcases hk.2 (i 1).val (i 1).isLt with g | ⟨g, -⟩
      · exact le_of_lt (α := EReal) g
      · exact le_of_eq (α := EReal) g
  · refine h3 _ (List.mem_map.mpr ⟨at2 (j 0) k, List.mem_filter.mpr ⟨List.mem_map.mpr ⟨S500000x80.rowMajor (at2 (j 0) k), List.mem_finRange _, Equiv.symm_apply_apply _ _⟩,
      decide_eq_true (drop_at2 j k)⟩, rfl⟩)

/-- `q` stands above `p`: a greater score, or the same with no greater column. -/
def below (p q : Ideal .f32 × BitVec 32) : Prop := (p.1 : EReal) < q.1 ∨ (p.1 = q.1 ∧ q.2.toNat ≤ p.2.toNat)

theorem below_refl (p : Ideal .f32 × BitVec 32) : below p p := .inr ⟨rfl, le_refl _⟩
theorem below_trans (p q r : Ideal .f32 × BitVec 32) (h : below p q) (h' : below q r) : below p r := by
  rcases h with h | ⟨h1, h2⟩ <;> rcases h' with g | ⟨g1, g2⟩
  · exact .inl (lt_trans h g)
  · exact .inl (g1 ▸ h)
  · exact .inl (h1 ▸ g)
  · exact .inr ⟨h1.trans g1, g2.trans h2⟩

/-- The reducer answers one of its two pairs, and one above both. -/
theorem reducer_keeps (p q : Ideal .f32 × BitVec 32) (hp : p.2.toNat < 80) (hq : q.2.toNat < 80) :
    (reducer_argmax_f32_i32 p q = p ∨ reducer_argmax_f32_i32 p q = q) ∧ below p (reducer_argmax_f32_i32 p q) ∧ below q (reducer_argmax_f32_i32 p q) := by
  obtain ⟨a, c⟩ := p
  obtain ⟨b, d⟩ := q
  have hc : BitVec.ofNat 32 c.toNat = c := by simp
  have hd : BitVec.ofNat 32 d.toNat = d := by simp
  have hslt : c.slt d = decide (c.toNat < d.toNat) := by
    conv_lhs => rw [← hc, ← hd]
    exact ofNat_slt (by have : c.toNat < 80 := hp; omega) (by have : d.toNat < 80 := hq; omega)
  unfold reducer_argmax_f32_i32 below
  simp only [ogt_ideal, une_ideal, oeq_ideal, IntOp.cmpi, hslt, ofBool_or, ofBool_and, select_ofBool, ne_eq, not_true_eq_false, decide_false,
    Bool.or_false, Bool.or_eq_true, Bool.and_eq_true, decide_eq_true_eq]
  by_cases h : (b : EReal) < a
  · simp only [if_pos h, if_pos (Or.inl h : (b : EReal) < a ∨ _)]
    exact ⟨.inl trivial, .inr ⟨trivial, le_refl _⟩, .inl h⟩
  · rw [if_neg h]
    by_cases e : a = b
    · subst e
      by_cases g : c.toNat < d.toNat
      · rw [if_pos (.inr ⟨rfl, g⟩)]
        exact ⟨.inl rfl, .inr ⟨rfl, le_refl _⟩, .inr ⟨rfl, g.le⟩⟩
      · rw [if_neg (by rintro (g' | ⟨-, g'⟩); exacts [h g', g g'])]
        exact ⟨.inr rfl, .inr ⟨rfl, not_lt.mp g⟩, .inr ⟨rfl, le_refl _⟩⟩
    · rw [if_neg (by rintro (g' | ⟨g', -⟩); exacts [h g', e g'])]
      exact ⟨.inr rfl, .inl (lt_of_le_of_ne (not_lt.mp h) e), .inr ⟨rfl, le_refl _⟩⟩

/-- The row's arg-max is the column of its first greatest score. -/
theorem argmax_first (x : S500000x80.Idx → Ideal .f32) (j : S500000.Idx) {k : ℕ} (hk : IsFirst (row x (j 0)) k) :
    (Host.argReduce reducer_argmax_f32_i32 x (iotaInDim S500000x80 32 1) (constant S_ .f32 0xFF800000#32) (constantI S_ 32 0#32)
      reducesTo_S500000x80_S500000_d1 h_S_ j).2 = BitVec.ofNat 32 k := by
  rw [Ideal.argReduce_eq_reduce2, Host.reduce2_eq_foldl_fiber]
  have hmem : ∀ p ∈ Host.argReduceFiber x (iotaInDim S500000x80 32 1) reducesTo_S500000x80_S500000_d1 j,
      ∃ c < 80, p = (row x (j 0) c, BitVec.ofNat 32 c) := by
    intro p hp
    obtain ⟨n, hn, rfl⟩ := List.mem_map.mp hp
    have hd := (drop_iff _ j).mp (of_decide_eq_true (List.mem_filter.mp hn).2)
    exact ⟨(S500000x80.rowMajor.symm n 1).val, (S500000x80.rowMajor.symm n 1).isLt, Prod.ext (congrArg x hd) rfl⟩
  have hin : ∀ c < 80, (row x (j 0) c, BitVec.ofNat 32 c) ∈ Host.argReduceFiber x (iotaInDim S500000x80 32 1) reducesTo_S500000x80_S500000_d1 j := by
    intro c hc
    refine List.mem_map.mpr ⟨S500000x80.rowMajor (at2 (j 0) c), List.mem_filter.mpr ⟨List.mem_finRange _, decide_eq_true ?_⟩, ?_⟩
    · rw [Equiv.symm_apply_apply]; exact drop_at2 j c
    · rw [Equiv.symm_apply_apply]
      exact Prod.ext rfl (congrArg (BitVec.ofNat 32) (Nat.mod_eq_of_lt hc))
  have hsmall : ∀ c < 80, (BitVec.ofNat 32 c).toNat = c := fun c hc => by rw [BitVec.toNat_ofNat]; exact Nat.mod_eq_of_lt (by omega)
  obtain ⟨h1, h2, h3⟩ := foldl_keeps (fun p : Ideal .f32 × BitVec 32 => p.2.toNat < 80) below below_refl below_trans reducer_argmax_f32_i32 reducer_keeps
    (Host.argReduceFiber x (iotaInDim S500000x80 32 1) reducesTo_S500000x80_S500000_d1 j)
    (constant S_ .f32 0xFF800000#32 (Shape.Idx.first h_S_), constantI S_ 32 0#32 (Shape.Idx.first h_S_)) (by show (0#32 : BitVec 32).toNat < 80; decide)
    (fun p hp => by obtain ⟨c, hc, rfl⟩ := hmem p hp; show (BitVec.ofNat 32 c).toNat < 80; rw [hsmall c hc]; exact hc)
  have hk3 := h3 _ (hin k hk.1)
  rcases h1 with h | h
  · -- the start itself: the first greatest score is minus infinity, at column 0
    rw [h] at hk3 ⊢
    rcases hk3 with g | ⟨g, -⟩
    · have g' : (row x (j 0) k : EReal) < (FloatOps.ofBits .f32 0xFF800000#32 : Ideal .f32) := g
      rw [negInf_ideal] at g'
      exact absurd g' not_lt_bot
    · have g' : row x (j 0) k = (⊥ : EReal) := g.trans negInf_ideal
      rcases hk.2 0 (by omega) with e | ⟨-, e⟩
      · exact absurd (g' ▸ e) not_lt_bot
      · obtain rfl : k = 0 := by omega
        rfl
  · obtain ⟨c, hc, he⟩ := hmem _ h
    rw [he] at hk3 ⊢
    refine congrArg (BitVec.ofNat 32) ?_
    rcases hk.2 c hc with g | ⟨g, g'⟩
    · rcases hk3 with e | ⟨e, -⟩
      · exact absurd (lt_trans (α := EReal) g e) (lt_irrefl _)
      · exact absurd e (ne_of_gt (α := EReal) g)
    · rcases hk3 with e | ⟨-, e⟩
      · exact absurd (g ▸ e) (lt_irrefl (α := EReal) _)
      · have e' : (BitVec.ofNat 32 c).toNat ≤ (BitVec.ofNat 32 k).toNat := e
        rw [hsmall c hc, hsmall k hk.1] at e'
        omega

/-- The reference's class of row `j`. -/
theorem out_first (x : S500000x80.Idx → Ideal .f32) (t : S_.Idx → Ideal .f32) (j : S500000.Idx) {k : ℕ} (hk : IsFirst (row x (j 0)) k) :
    out x t j = Scalar.select (FloatOps.cmpf .olt (row x (j 0) k) (t fun a => a.elim0)) 0#32 (BitVec.ofNat 32 k) := by
  have ht : broadcastInDim S500000 ![] bcast_S_S500000 t j = t fun a => a.elim0 := by
    unfold broadcastInDim
    exact congrArg t (funext fun a => a.elim0)
  unfold out
  refine (congrArg₂ (fun (b : BitVec 1) (n : BitVec 32) => Scalar.select b 0#32 n) ?_ (argmax_first x j hk))
  exact congrArg₂ (FloatOps.cmpf .olt) (max_first x j hk) ht

end Cert.Proof.Reference
-- ==== Proof.Algebraic.lean ====
module

public import proofs.«01_k».proof.Proof.Main
public import proofs.«01_k».proof.Proof.RefValue
public import Idealize.ShloMosaic.Lib.Pipeline.Value

/-! # The kernel's result is the reference's, over the extended reals -/

@[expose] public section

set_option maxRecDepth 65536

noncomputable section

namespace Cert.Proof

open Cert.KernelIdeal Cert.KernelIdeal.Gen
open Idealize.ShloMosaic
open Idealize.SL.Sem

variable (m : (ℓ : Loc nD τ sig) → Buf (Elt Ideal) ℓ)

/-- A column of the transposed scores is a row of the scores. -/
theorem column_row (d : Dev nD) (r : Fin 500000) :
    (fun c => xT m d (ixT c r.val)) = Reference.row (m (a0Loc d)) r := by
  funext c
  refine transpose_apply _ _ _ _ (Reference.at2 r c) fun b => ?_
  match b with
  | 0 => rfl
  | 1 => exact (Nat.mod_eq_of_lt r.isLt).symm

/-- A class of either core's part is the class of the first greatest score of its row. -/
theorem result1_first (d : Dev nD) (j : S500000.Idx) {k : ℕ} (hk : IsFirst (Reference.row (m (a0Loc d)) (j 0)) k) :
    result1 m d j = Scalar.select (FloatOps.cmpf .olt (Reference.row (m (a0Loc d)) (j 0) k) (tS m d)) 0#32 (BitVec.ofNat 32 k) := by
  unfold result1
  by_cases h : (j 0).val < 196608
  · refine (concatenate_pair_apply_left (s₁ := S196608) (s₂ := S303392) 0 (o1 m d) (p1 m d) concatenates_S196608_S303392_S500000_d0 j rfl (fun b => match b with | 0 => ⟨(j 0).val, h⟩)
      (fun b => by match b with | 0 => rfl)).trans ?_
    show scClass (fun c => xT m d (ixT c (j 0).val)) (tS m d) = _
    rw [column_row m d (j 0)]
    exact scClass_first hk _
  · have hj : (j 0).val < 500000 := (j 0).isLt
    have h' : (j 0).val - 196608 < 303392 := by omega
    have h1 : Subsingleton (Fin S500000.rank) := inferInstanceAs (Subsingleton (Fin 1))
    have hs : (j 0).val - S196608.size 0 + S196608.size 0 = (j 0).val := Nat.sub_add_cancel (not_lt.mp h)
    refine (concatenate_pair_apply_right (s₁ := S196608) (s₂ := S303392) 0 (o1 m d) (p1 m d) concatenates_S196608_S303392_S500000_d0 j rfl rfl
      (fun b => match b with | 0 => ⟨(j 0).val - 196608, h'⟩)
      (fun b hb => absurd (h1.elim _ _) hb) hs).trans ?_
    show tcClass (fun c => xT m d (ixT c (196608 + ((j 0).val - 196608)))) (tS m d) = _
    rw [show 196608 + ((j 0).val - 196608) = (j 0).val by omega, column_row m d (j 0)]
    exact tcClass_first hk _

/-- The kernel's result is the reference's of the same scores and threshold. -/
theorem result1_eq_out (d : Dev nD) : result1 m d = Reference.out (F := Ideal) (m (a0Loc d)) (m (a1Loc d)) := by
  funext j
  obtain ⟨k, hk, -⟩ := best_first (Reference.row (m (a0Loc d)) (j 0))
  exact (result1_first m d j hk).trans (Reference.out_first _ _ j hk).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Main
public import proofs.«01_k».proof.Proof.RefRun
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed for the machine's floats and as printed for the extended reals have one body table: no operation was rewritten. -/
theorem bodies_eq {F : FTy → Type} [FloatOps F] :
    @Cert.Kernel.defs₀ F _ Cert.Kernel.Gen.facts = @Cert.KernelIdeal.defs₀ F _ Cert.KernelIdeal.Gen.facts := by
  funext p l a
  cases p <;> fin_cases l <;> rfl

/-- So they have one table of functions. -/
theorem defs_eq {F : FTy → Type} [FloatOps F] :
    @Cert.Kernel.defs F _ Cert.Kernel.Gen.facts = @Cert.KernelIdeal.defs F _ Cert.KernelIdeal.Gen.facts :=
  congrArg (fun D => (Cert.KernelIdeal.sc (F := F)).defs (Pipeline.defs Cert.KernelIdeal.pcfgs D)) bodies_eq

/-- The kernel, over the machine's floats, completes, keeps its arguments and leaves every semaphore at zero. -/
theorem frame_kernel : Cert.quiescent_Kernel := by
  intro m ρ _
  rw [defs_eq]
  exact (θ_run Cert.KernelIdeal.defs _ _).mono (fun _ h => ⟨fun c => ⟨(h.1 c).1, (h.1 c).2.1⟩, h.2⟩) (run_main (F := Bits) m ρ)

/-- The same of the kernel over the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The same of the reference over the extended reals. -/
theorem frame_referenceIdeal : Cert.quiescent_ReferenceIdeal := fun m ρ _ =>
  (θ_run Cert.ReferenceIdeal.defs _ _).mono
    (fun r h => ⟨fun c => ⟨(h c Cert.ReferenceIdeal.main_arg0).trans (Reference.arg0_eq _), (h c Cert.ReferenceIdeal.main_arg1).trans (Reference.arg1_eq _)⟩,
      Idealize.ShloMosaic.sem_eq_zero_of_no_sems (by decide) r.2⟩)
    (Reference.run_main (F := Ideal) m ρ)

/-- From equal arguments the kernel and the reference, both over the extended reals, end with equal results. -/
theorem algebraic : Cert.algebraic_KernelIdeal_ReferenceIdeal := by
  intro m g m' g' _ hagree
  refine ⟨fun c => result1 (F := Ideal) m c, ?_, ?_⟩
  · exact (θ_run Cert.KernelIdeal.defs _ _).mono (fun _ h c => ⟨(h.1 c).2.2, (h.1 c).1, (h.1 c).2.1⟩) (run_main (F := Ideal) m g)
  · refine (θ_run Cert.ReferenceIdeal.defs _ _).mono (fun r h c => ⟨?_, (h c Cert.ReferenceIdeal.main_arg0).trans (Reference.arg0_eq _),
      (h c Cert.ReferenceIdeal.main_arg1).trans (Reference.arg1_eq _)⟩) (Reference.run_main (F := Ideal) m' g')
    refine ((h c Cert.ReferenceIdeal.main_v5).trans (Reference.out_eq _)).trans (Eq.trans ?_ (result1_eq_out m c).symm)
    exact congrArg₂ (Reference.out (F := Ideal)) (hagree c).1 (hagree c).2

/-- The certificate: the three runs, the kernel kept by idealizing, and its result the reference's. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
